-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v9)) (v7 : (c : Dev Cert.KernelIdeal.nD) → Buf (Elt Ideal) ((c.tc : Thread Cert.KernelIdeal.nD Cert.KernelIdeal.τ).loc Cert.KernelIdeal.main_v15)) (v8 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_v15) = v7 c
          ∧ r.2.mem ((c.tc : Thread Cert.KernelIdeal.nD Cert.KernelIdeal.τ).loc Cert.KernelIdeal.main_v21) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_v48) = v7 c
          ∧ r.2.mem ((c.tc : Thread Cert.ReferenceIdeal.nD Cert.ReferenceIdeal.τ).loc Cert.ReferenceIdeal.main_v75) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x4096 : Shape := ⟨3, ![2, 256, 4096]⟩
abbrev S2x256x1024 : Shape := ⟨3, ![2, 256, 1024]⟩
abbrev S2x256x256 : Shape := ⟨3, ![2, 256, 256]⟩
abbrev S2048x256 : Shape := ⟨2, ![2048, 256]⟩
abbrev S_ : Shape := ⟨0, ![]⟩

class Facts : Prop where
  bcast_S_S2x256x4096 : S_.BroadcastsInDim S2x256x4096 (![] : Fin 0 → Fin S2x256x4096.rank)
  bcast_S_S2x256x1024 : S_.BroadcastsInDim S2x256x1024 (![] : Fin 0 → Fin S2x256x1024.rank)
  bcast_S_S2x256x256 : S_.BroadcastsInDim S2x256x256 (![] : Fin 0 → Fin S2x256x256.rank)
  bcast_S_S2048x256 : S_.BroadcastsInDim S2048x256 (![] : Fin 0 → Fin S2048x256.rank)

variable [Facts]

def fn {F : FTy → Type} [FloatOps F] (main_arg0 : FVec F S2x256x4096 .f32) (main_arg1 : FVec F S2x256x1024 .f32) (main_arg2 : FVec F S2x256x256 .f32) (main_arg3 : FVec F S2048x256 .f32) (main_arg4 : FVec F S2048x256 .f32) (main_arg5 : FVec F S2048x256 .f32) : IVec S2x256x4096 1 × IVec S2x256x1024 1 × IVec S2x256x256 1 × IVec S2048x256 1 × IVec S2048x256 1 × IVec S2048x256 1 :=
  let main_v0 : FVec F S2x256x4096 .f32 := Host.absf main_arg0
  let main_cst : FVec F S_ .f32 := constant S_ .f32 0x7F800000#32
  let main_v1 : FVec F S2x256x4096 .f32 := broadcastInDim S2x256x4096 ![] bcast_S_S2x256x4096 main_cst
  let main_v2 : IVec S2x256x4096 1 := cmpf .olt main_v0 main_v1
  let main_v3 : FVec F S2x256x1024 .f32 := Host.absf main_arg1
  let main_cst_0 : FVec F S_ .f32 := constant S_ .f32 0x7F800000#32
  let main_v4 : FVec F S2x256x1024 .f32 := broadcastInDim S2x256x1024 ![] bcast_S_S2x256x1024 main_cst_0
  let main_v5 : IVec S2x256x1024 1 := cmpf .olt main_v3 main_v4
  let main_v6 : FVec F S2x256x256 .f32 := Host.absf main_arg2
  let main_cst_1 : FVec F S_ .f32 := constant S_ .f32 0x7F800000#32
  let main_v7 : FVec F S2x256x256 .f32 := broadcastInDim S2x256x256 ![] bcast_S_S2x256x256 main_cst_1
  let main_v8 : IVec S2x256x256 1 := cmpf .olt main_v6 main_v7
  let main_v9 : FVec F S2048x256 .f32 := Host.absf main_arg3
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_v12 : FVec F S2048x256 .f32 := Host.absf main_arg4
  let main_cst_3 : FVec F S_ .f32 := constant S_ .f32 0x7F800000#32
  let main_v13 : FVec F S2048x256 .f32 := broadcastInDim S2048x256 ![] bcast_S_S2048x256 main_cst_3
  let main_v14 : IVec S2048x256 1 := cmpf .olt main_v12 main_v13
  let main_v15 : FVec F S2048x256 .f32 := Host.absf main_arg5
  let main_cst_4 : FVec F S_ .f32 := constant S_ .f32 0x7F800000#32
  let main_v16 : FVec F S2048x256 .f32 := broadcastInDim S2048x256 ![] bcast_S_S2048x256 main_cst_4
  let main_v17 : IVec S2048x256 1 := cmpf .olt main_v15 main_v16
  (main_v2, main_v5, main_v8, main_v11, main_v14, main_v17)
-- ==== Kernel.lean ====
abbrev S2x256x4096 : Shape := ⟨3, ![2, 256, 4096]⟩
abbrev S2x256x1024 : Shape := ⟨3, ![2, 256, 1024]⟩
abbrev S2x256x256 : Shape := ⟨3, ![2, 256, 256]⟩
abbrev S2048x256 : Shape := ⟨2, ![2048, 256]⟩
abbrev S4x1x2048 : Shape := ⟨3, ![4, 1, 2048]⟩
abbrev S2x1x1024 : Shape := ⟨3, ![2, 1, 1024]⟩
abbrev S2x1x256 : Shape := ⟨3, ![2, 1, 256]⟩
abbrev S4x1x128 : Shape := ⟨3, ![4, 1, 128]⟩
abbrev S2x1x128 : Shape := ⟨3, ![2, 1, 128]⟩
abbrev S1x256x2048 : Shape := ⟨3, ![1, 256, 2048]⟩
abbrev S1x256x1024 : Shape := ⟨3, ![1, 256, 1024]⟩
abbrev S1x256x256 : Shape := ⟨3, ![1, 256, 256]⟩
abbrev S1x1x2048 : Shape := ⟨3, ![1, 1, 2048]⟩
abbrev S1x1x1024 : Shape := ⟨3, ![1, 1, 1024]⟩
abbrev S1x1x256 : Shape := ⟨3, ![1, 1, 256]⟩
abbrev S1x1x128 : Shape := ⟨3, ![1, 1, 128]⟩
abbrev S1x2048 : Shape := ⟨2, ![1, 2048]⟩
abbrev S2048 : Shape := ⟨1, ![2048]⟩
abbrev S256x2048 : Shape := ⟨2, ![256, 2048]⟩
abbrev S2048x1 : Shape := ⟨2, ![2048, 1]⟩
abbrev S2048x2048 : Shape := ⟨2, ![2048, 2048]⟩
abbrev S2048x1024 : Shape := ⟨2, ![2048, 1024]⟩
abbrev S1 : Shape := ⟨1, ![1]⟩
abbrev S1x1 : Shape := ⟨2, ![1, 1]⟩
abbrev S128 : Shape := ⟨1, ![128]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S1024x2048 : Shape := ⟨2, ![1024, 2048]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S2x4096 : Shape := ⟨2, ![2, 4096]⟩
abbrev S2x1024 : Shape := ⟨2, ![2, 1024]⟩
abbrev S2x256 : Shape := ⟨2, ![2, 256]⟩
abbrev S4x1x1 : Shape := ⟨3, ![4, 1, 1]⟩
abbrev S4x1 : Shape := ⟨2, ![4, 1]⟩
abbrev S_ : Shape := ⟨0, ![]⟩
abbrev S2x1x1 : Shape := ⟨3, ![2, 1, 1]⟩
abbrev S2x1 : Shape := ⟨2, ![2, 1]⟩

abbrev nBuf : Space → Nat
  | .hbm => 42
  | .vmem => 33
  | .smem => 0
  | _ => 0

abbrev bufTy : (tb : Table) → Fin (tcTables nBuf tb) → BufTy
  | .hbm, ⟨0, _⟩ => ⟨S2x256x4096, .f32⟩
  | .hbm, ⟨1, _⟩ => ⟨S2x256x1024, .f32⟩
  | .hbm, ⟨2, _⟩ => ⟨S2x256x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S4x1x2048, .i32⟩
  | .hbm, ⟨7, _⟩ => ⟨S2x1x1024, .i32⟩
  | .hbm, ⟨8, _⟩ => ⟨S2x1x256, .i32⟩
  | .hbm, ⟨9, _⟩ => ⟨S2x256x4096, .f32⟩
  | .hbm, ⟨10, _⟩ => ⟨S2x256x1024, .f32⟩
  | .hbm, ⟨11, _⟩ => ⟨S2x256x256, .f32⟩
  | .hbm, ⟨12, _⟩ => ⟨S4x1x128, .f32⟩
  | .hbm, ⟨13, _⟩ => ⟨S2x1x128, .f32⟩
  | .hbm, ⟨14, _⟩ => ⟨S2x1x128, .f32⟩
  | .hbm, ⟨15, _⟩ => ⟨S2x4096, .i32⟩
  | .hbm, ⟨16, _⟩ => ⟨S2x1024, .i32⟩
  | .hbm, ⟨17, _⟩ => ⟨S2x256, .i32⟩
  | .hbm, ⟨18, _⟩ => ⟨S4x1x1, .f32⟩
  | .hbm, ⟨19, _⟩ => ⟨S4x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x1x1, .f32⟩
  | .hbm, ⟨27, _⟩ => ⟨S2x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x1x1, .f32⟩
  | .hbm, ⟨35, _⟩ => ⟨S2x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .f32⟩
  | .local _ .vmem, ⟨3, _⟩ => ⟨S1x256x1024, .f32⟩
  | .local _ .vmem, ⟨4, _⟩ => ⟨S1x256x256, .f32⟩
  | .local _ .vmem, ⟨5, _⟩ => ⟨S1x256x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S1x1x2048, .i32⟩
  | .local _ .vmem, ⟨10, _⟩ => ⟨S1x1x2048, .i32⟩
  | .local _ .vmem, ⟨11, _⟩ => ⟨S1x1x1024, .i32⟩
  | .local _ .vmem, ⟨12, _⟩ => ⟨S1x1x1024, .i32⟩
  | .local _ .vmem, ⟨13, _⟩ => ⟨S1x1x256, .i32⟩
  | .local _ .vmem, ⟨14, _⟩ => ⟨S1x1x256, .i32⟩
  | .local _ .vmem, ⟨15, _⟩ => ⟨S1x256x2048, .f32⟩
  | .local _ .vmem, ⟨16, _⟩ => ⟨S1x256x2048, .f32⟩
  | .local _ .vmem, ⟨17, _⟩ => ⟨S1x256x1024, .f32⟩
  | .local _ .vmem, ⟨18, _⟩ => ⟨S1x256x1024, .f32⟩
  | .local _ .vmem, ⟨19, _⟩ => ⟨S1x256x256, .f32⟩
  | .local _ .vmem, ⟨20, _⟩ => ⟨S1x256x256, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x2048, .f32⟩
  | .local _ .vmem, ⟨28, _⟩ => ⟨S2048x256, .bf16⟩
  | .local _ .vmem, ⟨29, _⟩ => ⟨S1x2048, .f32⟩
  | .local _ .vmem, ⟨30, _⟩ => ⟨S2048x256, .bf16⟩
  | .local _ .vmem, ⟨31, _⟩ => ⟨S1x2048, .f32⟩
  | .local _ .vmem, ⟨32, _⟩ => ⟨S2048x256, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .eq arg1 c2_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S2x256x4096 : Shape := ⟨3, ![2, 256, 4096]⟩
abbrev S2x256x1024 : Shape := ⟨3, ![2, 256, 1024]⟩
abbrev S2x256x256 : Shape := ⟨3, ![2, 256, 256]⟩
abbrev S2048x256 : Shape := ⟨2, ![2048, 256]⟩
abbrev S2x4096x256 : Shape := ⟨3, ![2, 4096, 256]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S2x4096 : Shape := ⟨2, ![2, 4096]⟩
abbrev S2x1024x256 : Shape := ⟨3, ![2, 1024, 256]⟩
abbrev S2048x1 : Shape := ⟨2, ![2048, 1]⟩
abbrev S2048x2048 : Shape := ⟨2, ![2048, 2048]⟩
abbrev S2x1024 : Shape := ⟨2, ![2, 1024]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S2x256 : Shape := ⟨2, ![2, 256]⟩

abbrev nBuf : Space → Nat
  | .hbm => 186
  | .vmem => 0
  | .smem => 0
  | _ => 0

abbrev hbmTy0_0 (i : Nat) : BufTy := match i % 128 with
  | 0 => ⟨S2x256x4096, .f32⟩
  | 1 => ⟨S2x256x1024, .f32⟩
  | 2 => ⟨S2x256x256, .f32⟩
  | 3 => ⟨S2048x256, .f32⟩
  | 4 => ⟨S2048x256, .f32⟩
  | 5 => ⟨S2048x256, .f32⟩
  | 6 => ⟨S2x4096x256, .f32⟩
  | 7 => ⟨S8192x256, .f32⟩
  | 8 => ⟨S256x2048, .f32⟩
  | 9 => ⟨S8192x256, .f32⟩
  | 10 => ⟨S_, .f32⟩
  | 11 => ⟨S8192, .f32⟩
  | 12 => ⟨S8192x1, .f32⟩
  | 13 => ⟨S8192x2048, .f32⟩
  | 14 => ⟨S_, .f32⟩
  | 15 => ⟨S8192x2048, .f32⟩
  | 16 => ⟨S8192x2048, .f32⟩
  | 17 => ⟨S8192x2048, .f32⟩
  | 18 => ⟨S8192x2048, .f32⟩
  | 19 => ⟨S256x2048, .f32⟩
  | 20 => ⟨S_, .f32⟩
  | 21 => ⟨S2048, .f32⟩
  | 22 => ⟨S1x2048, .f32⟩
  | 23 => ⟨S8192x2048, .f32⟩
  | 24 => ⟨S8192x2048, .f32⟩
  | 25 => ⟨S8192x2048, .i32⟩
  | 26 => ⟨S_, .f32⟩
  | 27 => ⟨S_, .i32⟩
  | 28 => ⟨S8192, .f32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S1, .i32⟩
  | 39 => ⟨S_, .i32⟩
  | 40 => ⟨S8192x1, .i32⟩
  | 41 => ⟨S8192x1, .i1⟩
  | 42 => ⟨S1x1, .i32⟩
  | 43 => ⟨S8192x1, .i32⟩
  | 44 => ⟨S8192x1, .i1⟩
  | 45 => ⟨S8192x1, .i1⟩
  | 46 => ⟨S_, .i1⟩
  | 47 => ⟨S8192, .i1⟩
  | 48 => ⟨S8192x256, .f32⟩
  | 49 => ⟨S8192x256, .i1⟩
  | 50 => ⟨S_, .f32⟩
  | 51 => ⟨S8192x256, .f32⟩
  | 52 => ⟨S8192x256, .f32⟩
  | 53 => ⟨S8192x256, .f32⟩
  | 54 => ⟨S8192x256, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S8192x256, .f32⟩
  | 62 => ⟨S8192x256, .f32⟩
  | 63 => ⟨S2x4096, .i32⟩
  | 64 => ⟨S2x4096x256, .f32⟩
  | 65 => ⟨S2x256x4096, .f32⟩
  | 66 => ⟨S2x1024x256, .f32⟩
  | 67 => ⟨S2048x256, .f32⟩
  | 68 => ⟨S256x2048, .f32⟩
  | 69 => ⟨S2048x256, .f32⟩
  | 70 => ⟨S_, .f32⟩
  | 71 => ⟨S2048, .f32⟩
  | 72 => ⟨S2048x1, .f32⟩
  | 73 => ⟨S2048x2048, .f32⟩
  | 74 => ⟨S_, .f32⟩
  | 75 => ⟨S2048x2048, .f32⟩
  | 76 => ⟨S2048x2048, .f32⟩
  | 77 => ⟨S2048x2048, .f32⟩
  | 78 => ⟨S2048x2048, .f32⟩
  | 79 => ⟨S256x2048, .f32⟩
  | 80 => ⟨S_, .f32⟩
  | 81 => ⟨S2048, .f32⟩
  | 82 => ⟨S1x2048, .f32⟩
  | 83 => ⟨S2048x2048, .f32⟩
  | 84 => ⟨S2048x2048, .f32⟩
  | 85 => ⟨S2048x2048, .i32⟩
  | 86 => ⟨S_, .f32⟩
  | 87 => ⟨S_, .i32⟩
  | 88 => ⟨S2048, .f32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S1, .i32⟩
  | 99 => ⟨S_, .i32⟩
  | 100 => ⟨S2048x1, .i32⟩
  | 101 => ⟨S2048x1, .i1⟩
  | 102 => ⟨S1x1, .i32⟩
  | 103 => ⟨S2048x1, .i32⟩
  | 104 => ⟨S2048x1, .i1⟩
  | 105 => ⟨S2048x1, .i1⟩
  | 106 => ⟨S_, .i1⟩
  | 107 => ⟨S2048, .i1⟩
  | 108 => ⟨S2048x256, .f32⟩
  | 109 => ⟨S2048x256, .i1⟩
  | 110 => ⟨S_, .f32⟩
  | 111 => ⟨S2048x256, .f32⟩
  | 112 => ⟨S2048x256, .f32⟩
  | 113 => ⟨S2048x256, .f32⟩
  | 114 => ⟨S2048x256, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S2048x256, .f32⟩
  | 122 => ⟨S2048x256, .f32⟩
  | 123 => ⟨S2x1024, .i32⟩
  | 124 => ⟨S2x1024x256, .f32⟩
  | 125 => ⟨S2x256x1024, .f32⟩
  | 126 => ⟨S2x256x256, .f32⟩
  | 127 => ⟨S512x256, .f32⟩
  | _ => ⟨S2x256x4096, .f32⟩

abbrev hbmTy0_1 (i : Nat) : BufTy := match i % 128 with
  | 0 => ⟨S256x2048, .f32⟩
  | 1 => ⟨S512x256, .f32⟩
  | 2 => ⟨S_, .f32⟩
  | 3 => ⟨S512, .f32⟩
  | 4 => ⟨S512x1, .f32⟩
  | 5 => ⟨S512x2048, .f32⟩
  | 6 => ⟨S_, .f32⟩
  | 7 => ⟨S512x2048, .f32⟩
  | 8 => ⟨S512x2048, .f32⟩
  | 9 => ⟨S512x2048, .f32⟩
  | 10 => ⟨S512x2048, .f32⟩
  | 11 => ⟨S256x2048, .f32⟩
  | 12 => ⟨S_, .f32⟩
  | 13 => ⟨S2048, .f32⟩
  | 14 => ⟨S1x2048, .f32⟩
  | 15 => ⟨S512x2048, .f32⟩
  | 16 => ⟨S512x2048, .f32⟩
  | 17 => ⟨S512x2048, .i32⟩
  | 18 => ⟨S_, .f32⟩
  | 19 => ⟨S_, .i32⟩
  | 20 => ⟨S512, .f32⟩
  | 21 => ⟨S512, .i32⟩
  | 22 => ⟨S_, .i32⟩
  | 23 => ⟨S512, .i32⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S1, .i32⟩
  | 31 => ⟨S_, .i32⟩
  | 32 => ⟨S512x1, .i32⟩
  | 33 => ⟨S512x1, .i1⟩
  | 34 => ⟨S1x1, .i32⟩
  | 35 => ⟨S512x1, .i32⟩
  | 36 => ⟨S512x1, .i1⟩
  | 37 => ⟨S512x1, .i1⟩
  | 38 => ⟨S_, .i1⟩
  | 39 => ⟨S512, .i1⟩
  | 40 => ⟨S512x256, .f32⟩
  | 41 => ⟨S512x256, .i1⟩
  | 42 => ⟨S_, .f32⟩
  | 43 => ⟨S512x256, .f32⟩
  | 44 => ⟨S512x256, .f32⟩
  | 45 => ⟨S512x256, .f32⟩
  | 46 => ⟨S512x256, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S512x256, .f32⟩
  | 54 => ⟨S512x256, .f32⟩
  | 55 => ⟨S2x256, .i32⟩
  | 56 => ⟨S2x256x256, .f32⟩
  | 57 => ⟨S2x256x256, .f32⟩
  | _ => ⟨S2x256x4096, .f32⟩

abbrev hbmTy (i : Nat) : BufTy := match i / 128 with
  | 0 => hbmTy0_0 i
  | 1 => hbmTy0_1 i
  | _ => ⟨S2x256x4096, .f32⟩

abbrev bufTy : (tb : Table) → Fin (tcTables nBuf tb) → BufTy
  | .hbm, ⟨i, _⟩ => hbmTy i
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v16 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v17 : Ref sig .tc := ⟨.hbm, 52, rfl⟩
abbrev main_v18 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_v19 : Ref sig .tc := ⟨.hbm, 57, rfl⟩
abbrev main_v20 : Ref sig .tc := ⟨.hbm, 58, rfl⟩
abbrev main_cst_2 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call3_v0 : Ref sig .tc := ⟨.hbm, 85, rfl⟩
abbrev main_call3_cst : Ref sig .tc := ⟨.hbm, 86, rfl⟩
abbrev main_call3_c : Ref sig .tc := ⟨.hbm, 87, rfl⟩
abbrev main_call3_v1_0 : Ref sig .tc := ⟨.hbm, 88, rfl⟩
abbrev main_v43 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_call4_cst : Ref sig .tc := ⟨.hbm, 110, rfl⟩
abbrev main_call4_v15 : Ref sig .tc := ⟨.hbm, 111, rfl⟩
abbrev main_v44 : Ref sig .tc := ⟨.hbm, 112, rfl⟩
abbrev main_v45 : Ref sig .tc := ⟨.hbm, 113, rfl⟩
abbrev main_call5_v0 : Ref sig .tc := ⟨.hbm, 114, rfl⟩
abbrev main_call5_cst : Ref sig .tc := ⟨.hbm, 115, rfl⟩
abbrev main_call5_v1 : Ref sig .tc := ⟨.hbm, 116, rfl⟩
abbrev main_v46 : Ref sig .tc := ⟨.hbm, 117, rfl⟩
abbrev main_v47 : Ref sig .tc := ⟨.hbm, 118, rfl⟩
abbrev main_cst_6 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_7 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_8 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_cst_9 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_call6_v0 : Ref sig .tc := ⟨.hbm, 145, rfl⟩
abbrev main_call6_cst : Ref sig .tc := ⟨.hbm, 146, rfl⟩
abbrev main_call6_c : Ref sig .tc := ⟨.hbm, 147, rfl⟩
abbrev main_call6_v1_0 : Ref sig .tc := ⟨.hbm, 148, rfl⟩
abbrev main_v70 : Ref sig .tc := ⟨.hbm, 149, rfl⟩
abbrev main_call7_c : Ref sig .tc := ⟨.hbm, 150, rfl⟩
abbrev main_call7_v0 : Ref sig .tc := ⟨.hbm, 151, rfl⟩
abbrev main_call7_v1 : Ref sig .tc := ⟨.hbm, 152, rfl⟩
abbrev main_call7_c_0 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_call7_v5 : Ref sig .tc := ⟨.hbm, 157, rfl⟩
abbrev main_call7_c_1 : Ref sig .tc := ⟨.hbm, 158, rfl⟩
abbrev main_call7_c_2 : Ref sig .tc := ⟨.hbm, 159, rfl⟩
abbrev main_call7_v6 : Ref sig .tc := ⟨.hbm, 160, rfl⟩
abbrev main_call7_v7 : Ref sig .tc := ⟨.hbm, 161, rfl⟩
abbrev main_call7_v8 : Ref sig .tc := ⟨.hbm, 162, rfl⟩
abbrev main_call7_v9 : Ref sig .tc := ⟨.hbm, 163, rfl⟩
abbrev main_call7_v10 : Ref sig .tc := ⟨.hbm, 164, rfl⟩
abbrev main_call7_v11 : Ref sig .tc := ⟨.hbm, 165, rfl⟩
abbrev main_call7_c_3 : Ref sig .tc := ⟨.hbm, 166, rfl⟩
abbrev main_call7_v12 : Ref sig .tc := ⟨.hbm, 167, rfl⟩
abbrev main_call7_v13 : Ref sig .tc := ⟨.hbm, 168, rfl⟩
abbrev main_call7_v14 : Ref sig .tc := ⟨.hbm, 169, rfl⟩
abbrev main_call7_cst : Ref sig .tc := ⟨.hbm, 170, rfl⟩
abbrev main_call7_v15 : Ref sig .tc := ⟨.hbm, 171, rfl⟩
abbrev main_v71 : Ref sig .tc := ⟨.hbm, 172, rfl⟩
abbrev main_v72 : Ref sig .tc := ⟨.hbm, 173, rfl⟩
abbrev main_call8_v0 : Ref sig .tc := ⟨.hbm, 174, rfl⟩
abbrev main_call8_cst : Ref sig .tc := ⟨.hbm, 175, rfl⟩
abbrev main_call8_v1 : Ref sig .tc := ⟨.hbm, 176, rfl⟩
abbrev main_v73 : Ref sig .tc := ⟨.hbm, 177, rfl⟩
abbrev main_v74 : Ref sig .tc := ⟨.hbm, 178, rfl⟩
abbrev main_cst_10 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩

abbrev nD : Nat := 1
abbrev τ : Topo := Topo.v7x

variable {F : FTy → Type} [FloatOps F]
-- ==== Proof.KBase.lean ====
/-
  What the runs of the kernel's body share: its branch conditions in closed form over the grid points, the memory
  references of its windows and scratch, and its invariant with the scratch named.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 1 — decided over the grid. -/
theorem hcond0_1 : ∀ t : Fin cfg0.N, cond0_1 (grid0.coords t) ↔ t.val % 4 ≤ 1 :=
  (by decide +kernel : ∀ t : Fin grid0.N, cond0_1 (grid0.coords t) ↔ t.val % 4 ≤ 1)

/-- The condition of the body's `scf.if` 2 (`k0_h3`), from the grid coordinates (the skeleton's scalar
    chain substituted). -/
abbrev cond0_2 (i : grid0.Coords) : Prop := k0_cond3 i = 1#1
/-- It holds at the points ≡ 2 (mod 4) — by arithmetic of the point. -/
theorem hcond0_2 : ∀ t : Fin cfg0.N, cond0_2 (grid0.coords t) ↔ t.val % 4 = 2 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 2)

/-- The condition of the body's `scf.if` 3 (`k0_h4`), from the grid coordinates (the skeleton's scalar
    chain substituted). -/
abbrev cond0_3 (i : grid0.Coords) : Prop := k0_cond4 i = 1#1
/-- It holds at the points ≡ 3 (mod 4) — by arithmetic of the point. -/
theorem hcond0_3 : ∀ t : Fin cfg0.N, cond0_3 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1x2048 .f32 := Memref.whole cc0_scratch0
abbrev scM0_1 : Memref sig .tc .vmem S2048x256 .bf16 := Memref.whole cc0_scratch1
abbrev scM0_2 : Memref sig .tc .vmem S1x2048 .f32 := Memref.whole cc0_scratch2
abbrev scM0_3 : Memref sig .tc .vmem S2048x256 .bf16 := Memref.whole cc0_scratch3
abbrev scM0_4 : Memref sig .tc .vmem S1x2048 .f32 := Memref.whole cc0_scratch4
abbrev scM0_5 : Memref sig .tc .vmem S2048x256 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## Whole-block stores and loads -/

/-- Offsets at the origin of two axes. -/
theorem hz2 : (![0, 0] : Fin 2 → Nat) = fun _ => 0 := by decide
/-- Offsets at the origin of three axes. -/
theorem hz3 : (![0, 0, 0] : Fin 3 → Nat) = fun _ => 0 := by decide

/-- One store of a whole block at offset zero leaves its payload. -/
theorem read_store {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩)]
  exact View.canon_unit_zero h inb w

/-- A load of a whole block at offset zero reads the block. -/
theorem readAt_whole {κ : Kind} {sp : Space} {S : Shape} {e : EltTy} {off : Fin S.rank → Nat} (h : off = fun _ => 0)
    (v : View sig κ sp S e) (f : v.ty.Contents (Elt F)) (inb : ∀ a, off a + S.size a ≤ S.size a) :
    v.readAt (Elt F) (Rect.unit off S.size inb).toLoadRect f = v.read (Elt F) f := by
  rw [View.readAt_eq_ld]
  exact View.ld_unit_zero h inb _

/-- A load of a whole block, of contents given by the values they read as, reads those values. -/
theorem readAt_unread {κ : Kind} {sp : Space} {S : Shape} {e : EltTy} {mr : Memref sig κ sp S e} (hm : mr.IsWhole)
    {off : Fin S.rank → Nat} (h : off = fun _ => 0) (inb : ∀ a, off a + S.size a ≤ S.size a) (x : S.Idx → Elt F e) :
    mr.view.readAt (Elt F) (Rect.unit off S.size inb).toLoadRect (hm.unread x) = x :=
  (readAt_whole h _ _ inb).trans (hm.read_unread x)

end Cert.Proof.KI

end
-- ==== Proof.KRunD.lean ====
/-
  The body's run at a point of the third level.
-/
module

public import proofs.«01_k».proof.Proof.KBase

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x2048 .f32) (harg2 : arg2.IsWhole)
  (arg3 : Memref sig .tc .vmem S1x256x1024 .f32) (harg3 : arg3.IsWhole)
  (arg4 : Memref sig .tc .vmem S1x256x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S1x1x2048 .i32) (harg8 : arg8.IsWhole)
  (arg9 : Memref sig .tc .vmem S1x1x1024 .i32) (harg9 : arg9.IsWhole)
  (arg10 : Memref sig .tc .vmem S1x1x256 .i32) (harg10 : arg10.IsWhole)
  (arg11 : Memref sig .tc .vmem S1x256x2048 .f32) (harg11 : arg11.IsWhole)
  (arg12 : Memref sig .tc .vmem S1x256x1024 .f32) (harg12 : arg12.IsWhole)
  (arg13 : Memref sig .tc .vmem S1x256x256 .f32) (harg13 : arg13.IsWhole)
  (arg14 : Memref sig .tc .vmem S1x1x128 .f32) (harg14 : arg14.IsWhole)
  (arg15 : Memref sig .tc .vmem S1x1x128 .f32) (harg15 : arg15.IsWhole)
  (arg16 : Memref sig .tc .vmem S1x1x128 .f32) (harg16 : arg16.IsWhole)
  (arg17 : Memref sig .tc .vmem S1x2048 .f32) (harg17 : arg17.IsWhole)
  (arg18 : Memref sig .tc .vmem S2048x256 .bf16) (harg18 : arg18.IsWhole)
  (arg19 : Memref sig .tc .vmem S1x2048 .f32) (harg19 : arg19.IsWhole)
  (arg20 : Memref sig .tc .vmem S2048x256 .bf16) (harg20 : arg20.IsWhole)
  (arg21 : Memref sig .tc .vmem S1x2048 .f32) (harg21 : arg21.IsWhole)
  (arg22 : Memref sig .tc .vmem S2048x256 .bf16) (harg22 : arg22.IsWhole)

set_option maxHeartbeats 1000000 in
/-- The body at a point of the third level. -/
theorem run_D (hc0 : ¬cond0_0 i) (hc1 : ¬cond0_1 i) (hc2 : ¬cond0_2 i) (hc3 : cond0_3 i) (x : Vec F S1x256x256 .f32) (cb : Vec F S2048x256 .f32) (cn : Vec F S1x2048 .f32) (sc : Vec F S2048x256 .bf16) :
    ∀ (E : Set ℕ) (K : PUnit → sProp 𝕄),
      iprop(owns (c : Thread nD τ) arg4 fullShare (x) ∗ owns (c : Thread nD τ) arg7 fullShare (cb) ∗ owns (c : Thread nD τ) arg21 fullShare (cn) ∗ owns (c : Thread nD τ) arg22 fullShare (sc) ∗ (∃ d, owns (c : Thread nD τ) arg10 fullShare d) ∗ (∃ d, owns (c : Thread nD τ) arg13 fullShare d) ∗ (∃ d, owns (c : Thread nD τ) arg16 fullShare d)
        ∗ (iprop(owns (c : Thread nD τ) arg4 fullShare (x) ∗ owns (c : Thread nD τ) arg7 fullShare (cb) ∗ owns (c : Thread nD τ) arg21 fullShare (cn) ∗ owns (c : Thread nD τ) arg22 fullShare (sc) ∗ owns (c : Thread nD τ) arg10 fullShare (k0_pay32 x cn sc) ∗ owns (c : Thread nD τ) arg13 fullShare (k0_pay7 (k0_pay33 x cn sc cb)) ∗ owns (c : Thread nD τ) arg16 fullShare (k0_pay8 (k0_pay31 x cn sc))) -∗ K ⟨⟩))
      ⊢ wp frame (wpE (defs₀ (F := F)) Variants.none c none) E (cc0__vq_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc0__vq_body_eq_skeleton]; unfold cc0__vq_body_skel
  simp only [k0_part4_eq_skeleton]
  unfold owns
  iintro ⟨⟨%farg4, %hfarg4, Harg4⟩, ⟨%farg7, %hfarg7, Harg7⟩, ⟨%farg21, %hfarg21, Harg21⟩, ⟨%farg22, %hfarg22, Harg22⟩, ⟨%darg10, %farg10, -, Harg10⟩, ⟨%darg13, %farg13, -, Harg13⟩, ⟨%darg16, %farg16, -, Harg16⟩, Hk⟩
  obtain rfl := harg4.eq_unread hfarg4; obtain rfl := harg7.eq_unread hfarg7; obtain rfl := harg21.eq_unread hfarg21; obtain rfl := harg22.eq_unread hfarg22
  have earg4 : View.readAt (Elt F) arg4.view (Rect.unit ![0, 0, 0] ![1, 256, 256] inb_S1x256x256_S1x256x256_0_0_0).toLoadRect (harg4.unread x) = x :=
    readAt_unread harg4 hz3 _ _
  have earg7 : View.readAt (Elt F) arg7.view (Rect.unit ![0, 0] ![2048, 256] inb_S2048x256_S2048x256_0_0).toLoadRect (harg7.unread cb) = cb :=
    readAt_unread harg7 hz2 _ _
  have earg21 : View.readAt (Elt F) arg21.view (Rect.unit ![0, 0] ![1, 2048] inb_S1x2048_S1x2048_0_0).toLoadRect (harg21.unread cn) = cn :=
    readAt_unread harg21 hz2 _ _
  have earg22 : View.readAt (Elt F) arg22.view (Rect.unit ![0, 0] ![2048, 256] inb_S2048x256_S2048x256_0_0).toLoadRect (harg22.unread sc) = sc :=
    readAt_unread harg22 hz2 _ _
  sl_exec (disch := first | sl_exact hc0 | sl_exact hc1 | sl_exact hc2 | sl_exact hc3)
  sl_step
  iapply Hk
  isplitl [Harg4]
  · iexists _; isplitr; · ipureintro; exact harg4.read_unread _
    iexact Harg4
  isplitl [Harg7]
  · iexists _; isplitr; · ipureintro; exact harg7.read_unread _
    iexact Harg7
  isplitl [Harg21]
  · iexists _; isplitr; · ipureintro; exact harg21.read_unread _
    iexact Harg21
  isplitl [Harg22]
  · iexists _; isplitr; · ipureintro; exact harg22.read_unread _
    iexact Harg22
  isplitl [Harg10]
  · iexists _; isplitr; swap; · iexact Harg10
    ipureintro
    sl_unfold_words
    refine (read_store (by first | exact hz3 | exact hz2) _ _ _ _).trans ?_
    simp only [earg4, earg7, earg21, earg22]
  isplitl [Harg13]
  · iexists _; isplitr; swap; · iexact Harg13
    ipureintro
    sl_unfold_words
    refine (read_store (by first | exact hz3 | exact hz2) _ _ _ _).trans ?_
    simp only [earg4, earg7, earg21, earg22]
  iexists _; isplitr; swap; · iexact Harg16
  ipureintro
  sl_unfold_words
  refine (read_store (by first | exact hz3 | exact hz2) _ _ _ _).trans ?_
  simp only [earg4, earg7, earg21, earg22]

end Cert.Proof.KI

end
-- ==== Proof.KRunC.lean ====
/-
  The body's run at a point of the second level.
-/
module

public import proofs.«01_k».proof.Proof.KRunD

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x2048 .f32) (harg2 : arg2.IsWhole)
  (arg3 : Memref sig .tc .vmem S1x256x1024 .f32) (harg3 : arg3.IsWhole)
  (arg4 : Memref sig .tc .vmem S1x256x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S1x1x2048 .i32) (harg8 : arg8.IsWhole)
  (arg9 : Memref sig .tc .vmem S1x1x1024 .i32) (harg9 : arg9.IsWhole)
  (arg10 : Memref sig .tc .vmem S1x1x256 .i32) (harg10 : arg10.IsWhole)
  (arg11 : Memref sig .tc .vmem S1x256x2048 .f32) (harg11 : arg11.IsWhole)
  (arg12 : Memref sig .tc .vmem S1x256x1024 .f32) (harg12 : arg12.IsWhole)
  (arg13 : Memref sig .tc .vmem S1x256x256 .f32) (harg13 : arg13.IsWhole)
  (arg14 : Memref sig .tc .vmem S1x1x128 .f32) (harg14 : arg14.IsWhole)
  (arg15 : Memref sig .tc .vmem S1x1x128 .f32) (harg15 : arg15.IsWhole)
  (arg16 : Memref sig .tc .vmem S1x1x128 .f32) (harg16 : arg16.IsWhole)
  (arg17 : Memref sig .tc .vmem S1x2048 .f32) (harg17 : arg17.IsWhole)
  (arg18 : Memref sig .tc .vmem S2048x256 .bf16) (harg18 : arg18.IsWhole)
  (arg19 : Memref sig .tc .vmem S1x2048 .f32) (harg19 : arg19.IsWhole)
  (arg20 : Memref sig .tc .vmem S2048x256 .bf16) (harg20 : arg20.IsWhole)
  (arg21 : Memref sig .tc .vmem S1x2048 .f32) (harg21 : arg21.IsWhole)
  (arg22 : Memref sig .tc .vmem S2048x256 .bf16) (harg22 : arg22.IsWhole)

set_option maxHeartbeats 1000000 in
/-- The body at a point of the second level. -/
theorem run_C (hc0 : ¬cond0_0 i) (hc1 : ¬cond0_1 i) (hc2 : cond0_2 i) (hc3 : ¬cond0_3 i) (x : Vec F S1x256x1024 .f32) (cb : Vec F S2048x256 .f32) (cn : Vec F S1x2048 .f32) (sc : Vec F S2048x256 .bf16) :
    ∀ (E : Set ℕ) (K : PUnit → sProp 𝕄),
      iprop(owns (c : Thread nD τ) arg3 fullShare (x) ∗ owns (c : Thread nD τ) arg6 fullShare (cb) ∗ owns (c : Thread nD τ) arg19 fullShare (cn) ∗ owns (c : Thread nD τ) arg20 fullShare (sc) ∗ (∃ d, owns (c : Thread nD τ) arg9 fullShare d) ∗ (∃ d, owns (c : Thread nD τ) arg12 fullShare d) ∗ (∃ d, owns (c : Thread nD τ) arg15 fullShare d)
        ∗ (iprop(owns (c : Thread nD τ) arg3 fullShare (x) ∗ owns (c : Thread nD τ) arg6 fullShare (cb) ∗ owns (c : Thread nD τ) arg19 fullShare (cn) ∗ owns (c : Thread nD τ) arg20 fullShare (sc) ∗ owns (c : Thread nD τ) arg9 fullShare (k0_pay26 x cn sc) ∗ owns (c : Thread nD τ) arg12 fullShare (k0_pay5 (k0_pay27 x cn sc cb)) ∗ owns (c : Thread nD τ) arg15 fullShare (k0_pay6 (k0_pay25 x cn sc))) -∗ K ⟨⟩))
      ⊢ wp frame (wpE (defs₀ (F := F)) Variants.none c none) E (cc0__vq_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc0__vq_body_eq_skeleton]; unfold cc0__vq_body_skel
  simp only [k0_part3_eq_skeleton]
  unfold owns
  iintro ⟨⟨%farg3, %hfarg3, Harg3⟩, ⟨%farg6, %hfarg6, Harg6⟩, ⟨%farg19, %hfarg19, Harg19⟩, ⟨%farg20, %hfarg20, Harg20⟩, ⟨%darg9, %farg9, -, Harg9⟩, ⟨%darg12, %farg12, -, Harg12⟩, ⟨%darg15, %farg15, -, Harg15⟩, Hk⟩
  obtain rfl := harg3.eq_unread hfarg3; obtain rfl := harg6.eq_unread hfarg6; obtain rfl := harg19.eq_unread hfarg19; obtain rfl := harg20.eq_unread hfarg20
  have earg3 : View.readAt (Elt F) arg3.view (Rect.unit ![0, 0, 0] ![1, 256, 1024] inb_S1x256x1024_S1x256x1024_0_0_0).toLoadRect (harg3.unread x) = x :=
    readAt_unread harg3 hz3 _ _
  have earg6 : View.readAt (Elt F) arg6.view (Rect.unit ![0, 0] ![2048, 256] inb_S2048x256_S2048x256_0_0).toLoadRect (harg6.unread cb) = cb :=
    readAt_unread harg6 hz2 _ _
  have earg19 : View.readAt (Elt F) arg19.view (Rect.unit ![0, 0] ![1, 2048] inb_S1x2048_S1x2048_0_0).toLoadRect (harg19.unread cn) = cn :=
    readAt_unread harg19 hz2 _ _
  have earg20 : View.readAt (Elt F) arg20.view (Rect.unit ![0, 0] ![2048, 256] inb_S2048x256_S2048x256_0_0).toLoadRect (harg20.unread sc) = sc :=
    readAt_unread harg20 hz2 _ _
  sl_exec (disch := first | sl_exact hc0 | sl_exact hc1 | sl_exact hc2 | sl_exact hc3)
  sl_step
  iapply Hk
  isplitl [Harg3]
  · iexists _; isplitr; · ipureintro; exact harg3.read_unread _
    iexact Harg3
  isplitl [Harg6]
  · iexists _; isplitr; · ipureintro; exact harg6.read_unread _
    iexact Harg6
  isplitl [Harg19]
  · iexists _; isplitr; · ipureintro; exact harg19.read_unread _
    iexact Harg19
  isplitl [Harg20]
  · iexists _; isplitr; · ipureintro; exact harg20.read_unread _
    iexact Harg20
  isplitl [Harg9]
  · iexists _; isplitr; swap; · iexact Harg9
    ipureintro
    sl_unfold_words
    refine (read_store (by first | exact hz3 | exact hz2) _ _ _ _).trans ?_
    simp only [earg3, earg6, earg19, earg20]
  isplitl [Harg12]
  · iexists _; isplitr; swap; · iexact Harg12
    ipureintro
    sl_unfold_words
    refine (read_store (by first | exact hz3 | exact hz2) _ _ _ _).trans ?_
    simp only [earg3, earg6, earg19, earg20]
  iexists _; isplitr; swap; · iexact Harg15
  ipureintro
  sl_unfold_words
  refine (read_store (by first | exact hz3 | exact hz2) _ _ _ _).trans ?_
  simp only [earg3, earg6, earg19, earg20]

end Cert.Proof.KI

end
-- ==== Proof.KRunB.lean ====
/-
  The body's run at a point of the first level past the first point.
-/
module

public import proofs.«01_k».proof.Proof.KRunC

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x2048 .f32) (harg2 : arg2.IsWhole)
  (arg3 : Memref sig .tc .vmem S1x256x1024 .f32) (harg3 : arg3.IsWhole)
  (arg4 : Memref sig .tc .vmem S1x256x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S1x1x2048 .i32) (harg8 : arg8.IsWhole)
  (arg9 : Memref sig .tc .vmem S1x1x1024 .i32) (harg9 : arg9.IsWhole)
  (arg10 : Memref sig .tc .vmem S1x1x256 .i32) (harg10 : arg10.IsWhole)
  (arg11 : Memref sig .tc .vmem S1x256x2048 .f32) (harg11 : arg11.IsWhole)
  (arg12 : Memref sig .tc .vmem S1x256x1024 .f32) (harg12 : arg12.IsWhole)
  (arg13 : Memref sig .tc .vmem S1x256x256 .f32) (harg13 : arg13.IsWhole)
  (arg14 : Memref sig .tc .vmem S1x1x128 .f32) (harg14 : arg14.IsWhole)
  (arg15 : Memref sig .tc .vmem S1x1x128 .f32) (harg15 : arg15.IsWhole)
  (arg16 : Memref sig .tc .vmem S1x1x128 .f32) (harg16 : arg16.IsWhole)
  (arg17 : Memref sig .tc .vmem S1x2048 .f32) (harg17 : arg17.IsWhole)
  (arg18 : Memref sig .tc .vmem S2048x256 .bf16) (harg18 : arg18.IsWhole)
  (arg19 : Memref sig .tc .vmem S1x2048 .f32) (harg19 : arg19.IsWhole)
  (arg20 : Memref sig .tc .vmem S2048x256 .bf16) (harg20 : arg20.IsWhole)
  (arg21 : Memref sig .tc .vmem S1x2048 .f32) (harg21 : arg21.IsWhole)
  (arg22 : Memref sig .tc .vmem S2048x256 .bf16) (harg22 : arg22.IsWhole)

set_option maxHeartbeats 1000000 in
/-- The body at a point of the first level past the first point: the level-0 tile is coded from the scratch as it stands. -/
theorem run_B (hc0 : ¬cond0_0 i) (hc1 : cond0_1 i) (hc2 : ¬cond0_2 i) (hc3 : ¬cond0_3 i) (x : Vec F S1x256x2048 .f32) (cb : Vec F S2048x256 .f32) (cn : Vec F S1x2048 .f32) (sc : Vec F S2048x256 .bf16) :
    ∀ (E : Set ℕ) (K : PUnit → sProp 𝕄),
      iprop(owns (c : Thread nD τ) arg2 fullShare (x) ∗ owns (c : Thread nD τ) arg5 fullShare (cb) ∗ owns (c : Thread nD τ) arg17 fullShare (cn) ∗ owns (c : Thread nD τ) arg18 fullShare (sc) ∗ (∃ d, owns (c : Thread nD τ) arg8 fullShare d) ∗ (∃ d, owns (c : Thread nD τ) arg11 fullShare d) ∗ (∃ d, owns (c : Thread nD τ) arg14 fullShare d)
        ∗ (iprop(owns (c : Thread nD τ) arg2 fullShare (x) ∗ owns (c : Thread nD τ) arg5 fullShare (cb) ∗ owns (c : Thread nD τ) arg17 fullShare (cn) ∗ owns (c : Thread nD τ) arg18 fullShare (sc) ∗ owns (c : Thread nD τ) arg8 fullShare (k0_pay2 (k0_pay20 x cn sc)) ∗ owns (c : Thread nD τ) arg11 fullShare (k0_pay3 (k0_pay20 x cn sc) cb) ∗ owns (c : Thread nD τ) arg14 fullShare (k0_pay4 (k0_pay17 x cn sc) (k0_pay19 x cn sc) (k0_pay21 x cn sc))) -∗ K ⟨⟩))
      ⊢ wp frame (wpE (defs₀ (F := F)) Variants.none c none) E (cc0__vq_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc0__vq_body_eq_skeleton]; unfold cc0__vq_body_skel
  simp only [k0_part2_eq_skeleton]
  unfold owns
  iintro ⟨⟨%farg2, %hfarg2, Harg2⟩, ⟨%farg5, %hfarg5, Harg5⟩, ⟨%farg17, %hfarg17, Harg17⟩, ⟨%farg18, %hfarg18, Harg18⟩, ⟨%darg8, %farg8, -, Harg8⟩, ⟨%darg11, %farg11, -, Harg11⟩, ⟨%darg14, %farg14, -, Harg14⟩, Hk⟩
  obtain rfl := harg2.eq_unread hfarg2; obtain rfl := harg5.eq_unread hfarg5; obtain rfl := harg17.eq_unread hfarg17; obtain rfl := harg18.eq_unread hfarg18
  have earg2 : View.readAt (Elt F) arg2.view (Rect.unit ![0, 0, 0] ![1, 256, 2048] inb_S1x256x2048_S1x256x2048_0_0_0).toLoadRect (harg2.unread x) = x :=
    readAt_unread harg2 hz3 _ _
  have earg5 : View.readAt (Elt F) arg5.view (Rect.unit ![0, 0] ![2048, 256] inb_S2048x256_S2048x256_0_0).toLoadRect (harg5.unread cb) = cb :=
    readAt_unread harg5 hz2 _ _
  have earg17 : View.readAt (Elt F) arg17.view (Rect.unit ![0, 0] ![1, 2048] inb_S1x2048_S1x2048_0_0).toLoadRect (harg17.unread cn) = cn :=
    readAt_unread harg17 hz2 _ _
  have earg18 : View.readAt (Elt F) arg18.view (Rect.unit ![0, 0] ![2048, 256] inb_S2048x256_S2048x256_0_0).toLoadRect (harg18.unread sc) = sc :=
    readAt_unread harg18 hz2 _ _
  sl_exec (disch := first | sl_exact hc0 | sl_exact hc1 | sl_exact hc2 | sl_exact hc3)
  sl_step
  iapply Hk
  isplitl [Harg2]
  · iexists _; isplitr; · ipureintro; exact harg2.read_unread _
    iexact Harg2
  isplitl [Harg5]
  · iexists _; isplitr; · ipureintro; exact harg5.read_unread _
    iexact Harg5
  isplitl [Harg17]
  · iexists _; isplitr; · ipureintro; exact harg17.read_unread _
    iexact Harg17
  isplitl [Harg18]
  · iexists _; isplitr; · ipureintro; exact harg18.read_unread _
    iexact Harg18
  isplitl [Harg8]
  · iexists _; isplitr; swap; · iexact Harg8
    ipureintro
    sl_unfold_words
    refine (read_store (by first | exact hz3 | exact hz2) _ _ _ _).trans ?_
    simp only [earg2, earg5, earg17, earg18]
  isplitl [Harg11]
  · iexists _; isplitr; swap; · iexact Harg11
    ipureintro
    sl_unfold_words
    refine (read_store (by first | exact hz3 | exact hz2) _ _ _ _).trans ?_
    simp only [earg2, earg5, earg17, earg18]
  iexists _; isplitr; swap; · iexact Harg14
  ipureintro
  sl_unfold_words
  refine (read_store (by first | exact hz3 | exact hz2) _ _ _ _).trans ?_
  simp only [earg2, earg5, earg17, earg18]

end Cert.Proof.KI

end
-- ==== Proof.KRunA.lean ====
/-
  The body's run at the first point.
-/
module

public import proofs.«01_k».proof.Proof.KRunB

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x2048 .f32) (harg2 : arg2.IsWhole)
  (arg3 : Memref sig .tc .vmem S1x256x1024 .f32) (harg3 : arg3.IsWhole)
  (arg4 : Memref sig .tc .vmem S1x256x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S1x1x2048 .i32) (harg8 : arg8.IsWhole)
  (arg9 : Memref sig .tc .vmem S1x1x1024 .i32) (harg9 : arg9.IsWhole)
  (arg10 : Memref sig .tc .vmem S1x1x256 .i32) (harg10 : arg10.IsWhole)
  (arg11 : Memref sig .tc .vmem S1x256x2048 .f32) (harg11 : arg11.IsWhole)
  (arg12 : Memref sig .tc .vmem S1x256x1024 .f32) (harg12 : arg12.IsWhole)
  (arg13 : Memref sig .tc .vmem S1x256x256 .f32) (harg13 : arg13.IsWhole)
  (arg14 : Memref sig .tc .vmem S1x1x128 .f32) (harg14 : arg14.IsWhole)
  (arg15 : Memref sig .tc .vmem S1x1x128 .f32) (harg15 : arg15.IsWhole)
  (arg16 : Memref sig .tc .vmem S1x1x128 .f32) (harg16 : arg16.IsWhole)
  (arg17 : Memref sig .tc .vmem S1x2048 .f32) (harg17 : arg17.IsWhole)
  (arg18 : Memref sig .tc .vmem S2048x256 .bf16) (harg18 : arg18.IsWhole)
  (arg19 : Memref sig .tc .vmem S1x2048 .f32) (harg19 : arg19.IsWhole)
  (arg20 : Memref sig .tc .vmem S2048x256 .bf16) (harg20 : arg20.IsWhole)
  (arg21 : Memref sig .tc .vmem S1x2048 .f32) (harg21 : arg21.IsWhole)
  (arg22 : Memref sig .tc .vmem S2048x256 .bf16) (harg22 : arg22.IsWhole)

set_option maxHeartbeats 1000000 in
/-- The body at the first point: the scratch of all three levels is filled from the codebooks, then the level-0 tile is coded. -/
theorem run_A (hc0 : cond0_0 i) (hc1 : cond0_1 i) (hc2 : ¬cond0_2 i) (hc3 : ¬cond0_3 i) (x : Vec F S1x256x2048 .f32) (cb0 : Vec F S2048x256 .f32) (cb1 : Vec F S2048x256 .f32) (cb2 : Vec F S2048x256 .f32) :
    ∀ (E : Set ℕ) (K : PUnit → sProp 𝕄),
      iprop(owns (c : Thread nD τ) arg2 fullShare (x) ∗ owns (c : Thread nD τ) arg5 fullShare (cb0) ∗ owns (c : Thread nD τ) arg6 fullShare (cb1) ∗ owns (c : Thread nD τ) arg7 fullShare (cb2) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg8 fullShare d) ∗ (∃ d, owns (c : Thread nD τ) arg11 fullShare d) ∗ (∃ d, owns (c : Thread nD τ) arg14 fullShare d)
        ∗ (iprop(owns (c : Thread nD τ) arg2 fullShare (x) ∗ owns (c : Thread nD τ) arg5 fullShare (cb0) ∗ owns (c : Thread nD τ) arg6 fullShare (cb1) ∗ owns (c : Thread nD τ) arg7 fullShare (cb2) ∗ owns (c : Thread nD τ) arg17 fullShare (k0_pay9 cb0) ∗ owns (c : Thread nD τ) arg18 fullShare (k0_pay10 cb0) ∗ owns (c : Thread nD τ) arg19 fullShare (k0_pay11 cb1) ∗ owns (c : Thread nD τ) arg20 fullShare (k0_pay12 cb1) ∗ owns (c : Thread nD τ) arg21 fullShare (k0_pay13 cb2) ∗ owns (c : Thread nD τ) arg22 fullShare (k0_pay1 cb2 (Scalar.ofBits .f32 0xC0000000#32)) ∗ owns (c : Thread nD τ) arg8 fullShare (k0_pay2 (k0_pay20 x (k0_pay9 cb0) (k0_pay10 cb0))) ∗ owns (c : Thread nD τ) arg11 fullShare (k0_pay3 (k0_pay20 x (k0_pay9 cb0) (k0_pay10 cb0)) cb0) ∗ owns (c : Thread nD τ) arg14 fullShare (k0_pay4 (k0_pay17 x (k0_pay9 cb0) (k0_pay10 cb0)) (k0_pay19 x (k0_pay9 cb0) (k0_pay10 cb0)) (k0_pay21 x (k0_pay9 cb0) (k0_pay10 cb0)))) -∗ K ⟨⟩))
      ⊢ wp frame (wpE (defs₀ (F := F)) Variants.none c none) E (cc0__vq_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc0__vq_body_eq_skeleton]; unfold cc0__vq_body_skel
  simp only [k0_part1_eq_skeleton, k0_part2_eq_skeleton]
  unfold owns
  iintro ⟨⟨%farg2, %hfarg2, Harg2⟩, ⟨%farg5, %hfarg5, Harg5⟩, ⟨%farg6, %hfarg6, Harg6⟩, ⟨%farg7, %hfarg7, Harg7⟩, ⟨%darg17, %farg17, -, Harg17⟩, ⟨%darg18, %farg18, -, Harg18⟩, ⟨%darg19, %farg19, -, Harg19⟩, ⟨%darg20, %farg20, -, Harg20⟩, ⟨%darg21, %farg21, -, Harg21⟩, ⟨%darg22, %farg22, -, Harg22⟩, ⟨%darg8, %farg8, -, Harg8⟩, ⟨%darg11, %farg11, -, Harg11⟩, ⟨%darg14, %farg14, -, Harg14⟩, Hk⟩
  obtain rfl := harg2.eq_unread hfarg2; obtain rfl := harg5.eq_unread hfarg5; obtain rfl := harg6.eq_unread hfarg6; obtain rfl := harg7.eq_unread hfarg7
  have earg2 : View.readAt (Elt F) arg2.view (Rect.unit ![0, 0, 0] ![1, 256, 2048] inb_S1x256x2048_S1x256x2048_0_0_0).toLoadRect (harg2.unread x) = x :=
    readAt_unread harg2 hz3 _ _
  have earg5 : View.readAt (Elt F) arg5.view (Rect.unit ![0, 0] ![2048, 256] inb_S2048x256_S2048x256_0_0).toLoadRect (harg5.unread cb0) = cb0 :=
    readAt_unread harg5 hz2 _ _
  have earg6 : View.readAt (Elt F) arg6.view (Rect.unit ![0, 0] ![2048, 256] inb_S2048x256_S2048x256_0_0).toLoadRect (harg6.unread cb1) = cb1 :=
    readAt_unread harg6 hz2 _ _
  have earg7 : View.readAt (Elt F) arg7.view (Rect.unit ![0, 0] ![2048, 256] inb_S2048x256_S2048x256_0_0).toLoadRect (harg7.unread cb2) = cb2 :=
    readAt_unread harg7 hz2 _ _
  have earg17 : ∀ w : Vec F S1x2048 .f32, arg17.view.readCov [(⟨Rect.unit ![0, 0] ![1, 2048] inb_S1x2048_S1x2048_0_0, w⟩ : View.Piece (Elt F) S1x2048 .f32)] (Rect.unit ![0, 0] ![1, 2048] inb_S1x2048_S1x2048_0_0).toLoadRect = w :=
    fun w => View.readCov_unit_zero _ hz2 _ w
  have earg18 : ∀ w : Vec F S2048x256 .bf16, arg18.view.readCov [(⟨Rect.unit ![0, 0] ![2048, 256] inb_S2048x256_S2048x256_0_0, w⟩ : View.Piece (Elt F) S2048x256 .bf16)] (Rect.unit ![0, 0] ![2048, 256] inb_S2048x256_S2048x256_0_0).toLoadRect = w :=
    fun w => View.readCov_unit_zero _ hz2 _ w
  sl_exec (disch := first | sl_exact hc0 | sl_exact hc1 | sl_exact hc2 | sl_exact hc3)
  sl_step
  iapply Hk
  isplitl [Harg2]
  · iexists _; isplitr; · ipureintro; exact harg2.read_unread _
    iexact Harg2
  isplitl [Harg5]
  · iexists _; isplitr; · ipureintro; exact harg5.read_unread _
    iexact Harg5
  isplitl [Harg6]
  · iexists _; isplitr; · ipureintro; exact harg6.read_unread _
    iexact Harg6
  isplitl [Harg7]
  · iexists _; isplitr; · ipureintro; exact harg7.read_unread _
    iexact Harg7
  isplitl [Harg17]
  · iexists _; isplitr; swap; · iexact Harg17
    ipureintro
    sl_unfold_words
    refine (read_store (by first | exact hz3 | exact hz2) _ _ _ _).trans ?_
    simp only [earg2, earg5, earg6, earg7, earg17, earg18]
  isplitl [Harg18]
  · iexists _; isplitr; swap; · iexact Harg18
    ipureintro
    sl_unfold_words
    refine (read_store (by first | exact hz3 | exact hz2) _ _ _ _).trans ?_
    simp only [earg2, earg5, earg6, earg7, earg17, earg18]
  isplitl [Harg19]
  · iexists _; isplitr; swap; · iexact Harg19
    ipureintro
    sl_unfold_words
    refine (read_store (by first | exact hz3 | exact hz2) _ _ _ _).trans ?_
    simp only [earg2, earg5, earg6, earg7, earg17, earg18]
  isplitl [Harg20]
  · iexists _; isplitr; swap; · iexact Harg20
    ipureintro
    sl_unfold_words
    refine (read_store (by first | exact hz3 | exact hz2) _ _ _ _).trans ?_
    simp only [earg2, earg5, earg6, earg7, earg17, earg18]
  isplitl [Harg21]
  · iexists _; isplitr; swap; · iexact Harg21
    ipureintro
    sl_unfold_words
    refine (read_store (by first | exact hz3 | exact hz2) _ _ _ _).trans ?_
    simp only [earg2, earg5, earg6, earg7, earg17, earg18]
  isplitl [Harg22]
  · iexists _; isplitr; swap; · iexact Harg22
    ipureintro
    sl_unfold_words
    refine (read_store (by first | exact hz3 | exact hz2) _ _ _ _).trans ?_
    simp only [earg2, earg5, earg6, earg7, earg17, earg18]
  isplitl [Harg8]
  · iexists _; isplitr; swap; · iexact Harg8
    ipureintro
    sl_unfold_words
    refine (read_store (by first | exact hz3 | exact hz2) _ _ _ _).trans ?_
    simp only [earg2, earg5, earg6, earg7, earg17, earg18]
  isplitl [Harg11]
  · iexists _; isplitr; swap; · iexact Harg11
    ipureintro
    sl_unfold_words
    refine (read_store (by first | exact hz3 | exact hz2) _ _ _ _).trans ?_
    simp only [earg2, earg5, earg6, earg7, earg17, earg18]
  iexists _; isplitr; swap; · iexact Harg14
  ipureintro
  sl_unfold_words
  refine (read_store (by first | exact hz3 | exact hz2) _ _ _ _).trans ?_
  simp only [earg2, earg5, earg6, earg7, earg17, earg18]

end Cert.Proof.KI

end
-- ==== Proof.KDat.lean ====
/-
  The kernel's proof data: after the body at a grid point each input's buffer holds its block, each result's buffer
  what the last point that computed it left there, and the scratch, once filled, the code norms and the scaled
  codebooks of the three levels.
-/
module

public import proofs.«01_k».proof.Proof.KRunA
public import Idealize.ShloMosaic.Lib.Pipeline.TableIdle
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the values computed from them -/

/-- The point whose level-0 tile the level-0 buffers hold at point `t`. -/
def cur0 (t : Fin cfg0.N) : Fin cfg0.N :=
  ⟨if t.val % 4 ≤ 1 then t.val else t.val / 4 * 4 + 1, by have := t.isLt; have h : cfg0.N = 8 := N_0; split <;> omega⟩
/-- The point of `t`'s batch row that computes level 1. -/
def cur1 (t : Fin cfg0.N) : Fin cfg0.N := ⟨t.val / 4 * 4 + 2, by have := t.isLt; have h : cfg0.N = 8 := N_0; omega⟩
/-- The point of `t`'s batch row that computes level 2. -/
def cur2 (t : Fin cfg0.N) : Fin cfg0.N := ⟨t.val / 4 * 4 + 3, by have := t.isLt; have h : cfg0.N = 8 := N_0; omega⟩

/-- The blocks of the three inputs at point `t`. -/
def X0 (c : Dev nD) (t : Fin cfg0.N) : Vec F S1x256x2048 .f32 := iblk m c 0 t
def X1 (c : Dev nD) (t : Fin cfg0.N) : Vec F S1x256x1024 .f32 := iblk m c 1 t
def X2 (c : Dev nD) (t : Fin cfg0.N) : Vec F S1x256x256 .f32 := iblk m c 2 t
/-- The three levels' codebooks: each one block, the same at every point. -/
def C0 (c : Dev nD) : Vec F S2048x256 .f32 := iblk m c 3 t0_0
def C1 (c : Dev nD) : Vec F S2048x256 .f32 := iblk m c 4 t0_0
def C2 (c : Dev nD) : Vec F S2048x256 .f32 := iblk m c 5 t0_0

/-- Level 0's codebook block is the same at every point. -/
theorem blk_C0 (c : Dev nD) (t : Fin cfg0.N) : iblk m c 3 t = C0 m c := rfl
/-- Level 1's codebook block is the same at every point. -/
theorem blk_C1 (c : Dev nD) (t : Fin cfg0.N) : iblk m c 4 t = C1 m c := rfl
/-- Level 2's codebook block is the same at every point. -/
theorem blk_C2 (c : Dev nD) (t : Fin cfg0.N) : iblk m c 5 t = C2 m c := rfl

/-- Level 0's tokens, quantised block and partial loss of a tile `x` against the codebook `cb`. -/
def tokV0 (x : Vec F S1x256x2048 .f32) (cb : Vec F S2048x256 .f32) : Vec F S1x1x2048 .i32 := k0_pay2 (k0_pay20 x (k0_pay9 cb) (k0_pay10 cb))
def quantV0 (x : Vec F S1x256x2048 .f32) (cb : Vec F S2048x256 .f32) : Vec F S1x256x2048 .f32 := k0_pay3 (k0_pay20 x (k0_pay9 cb) (k0_pay10 cb)) cb
def lossV0 (x : Vec F S1x256x2048 .f32) (cb : Vec F S2048x256 .f32) : Vec F S1x1x128 .f32 := k0_pay4 (k0_pay17 x (k0_pay9 cb) (k0_pay10 cb)) (k0_pay19 x (k0_pay9 cb) (k0_pay10 cb)) (k0_pay21 x (k0_pay9 cb) (k0_pay10 cb))

/-- Level 1's tokens, quantised block and partial loss of a tile `x` against the codebook `cb`. -/
def tokV1 (x : Vec F S1x256x1024 .f32) (cb : Vec F S2048x256 .f32) : Vec F S1x1x1024 .i32 := k0_pay26 x (k0_pay11 cb) (k0_pay12 cb)
def quantV1 (x : Vec F S1x256x1024 .f32) (cb : Vec F S2048x256 .f32) : Vec F S1x256x1024 .f32 := k0_pay5 (k0_pay27 x (k0_pay11 cb) (k0_pay12 cb) cb)
def lossV1 (x : Vec F S1x256x1024 .f32) (cb : Vec F S2048x256 .f32) : Vec F S1x1x128 .f32 := k0_pay6 (k0_pay25 x (k0_pay11 cb) (k0_pay12 cb))

/-- Level 2's tokens, quantised block and partial loss of a tile `x` against the codebook `cb`. -/
def tokV2 (x : Vec F S1x256x256 .f32) (cb : Vec F S2048x256 .f32) : Vec F S1x1x256 .i32 := k0_pay32 x (k0_pay13 cb) (k0_pay1 cb (Scalar.ofBits .f32 0xC0000000#32))
def quantV2 (x : Vec F S1x256x256 .f32) (cb : Vec F S2048x256 .f32) : Vec F S1x256x256 .f32 := k0_pay7 (k0_pay33 x (k0_pay13 cb) (k0_pay1 cb (Scalar.ofBits .f32 0xC0000000#32)) cb)
def lossV2 (x : Vec F S1x256x256 .f32) (cb : Vec F S2048x256 .f32) : Vec F S1x1x128 .f32 := k0_pay8 (k0_pay31 x (k0_pay13 cb) (k0_pay1 cb (Scalar.ofBits .f32 0xC0000000#32)))

/-! ## The proof data -/

/-- The scratch once filled, and the generator register. -/
def PhiHeld (c : Dev nD) : sProp 𝕄 :=
  iprop(iprop(owns (c : Thread nD τ) scM0_0 fullShare (k0_pay9 (C0 m c)) ∗ owns (c : Thread nD τ) scM0_1 fullShare (k0_pay10 (C0 m c)) ∗ owns (c : Thread nD τ) scM0_2 fullShare (k0_pay11 (C1 m c)) ∗ owns (c : Thread nD τ) scM0_3 fullShare (k0_pay12 (C1 m c)) ∗ owns (c : Thread nD τ) scM0_4 fullShare (k0_pay13 (C2 m c)) ∗ owns (c : Thread nD τ) scM0_5 fullShare (k0_pay1 (C2 m c) (Scalar.ofBits .f32 0xC0000000#32))) ∗ (∃ r, prngReg c r))

/-- The invariant before position `n`: the scoped rest at anything before the first point, the scratch filled after it. -/
def PhiN (c : Dev nD) (n : ℕ) : sProp 𝕄 := if n = 0 then Pipeline.ΦA spec0 c else PhiHeld m c

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tokV0 (X0 m c (cur0 t)) (C0 m c)
    | ⟨7, _⟩ => tokV1 (X1 m c (cur1 t)) (C1 m c)
    | ⟨8, _⟩ => tokV2 (X2 m c (cur2 t)) (C2 m c)
    | ⟨9, _⟩ => quantV0 (X0 m c (cur0 t)) (C0 m c)
    | ⟨10, _⟩ => quantV1 (X1 m c (cur1 t)) (C1 m c)
    | ⟨11, _⟩ => quantV2 (X2 m c (cur2 t)) (C2 m c)
    | ⟨12, _⟩ => lossV0 (X0 m c (cur0 t)) (C0 m c)
    | ⟨13, _⟩ => lossV1 (X1 m c (cur1 t)) (C1 m c)
    | ⟨14, _⟩ => lossV2 (X2 m c (cur2 t)) (C2 m c)
  Φ t := PhiN m c t.val
  q _ := fullShare
  owed _ := 0

/-- The arrays start with the launch's contents. -/
theorem A_eq (c : Dev nD) (w : Fin cfg0.W) : (dats m 0 c).A w = V m c (Pipeline.arrRef spec0 w) := by
  dsimp only [dats]

/-- What the buffer of level 0's latent holds after the body at a point. -/
theorem after0_0 (c : Dev nD) (t : Fin cfg0.N) : (dats m 0 c).after 0 t = iblk m c 0 t := by dsimp only [dats]
/-- What the buffer of level 1's latent holds after the body at a point. -/
theorem after0_1 (c : Dev nD) (t : Fin cfg0.N) : (dats m 0 c).after 1 t = iblk m c 1 t := by dsimp only [dats]
/-- What the buffer of level 2's latent holds after the body at a point. -/
theorem after0_2 (c : Dev nD) (t : Fin cfg0.N) : (dats m 0 c).after 2 t = iblk m c 2 t := by dsimp only [dats]
/-- What the buffer of level 0's codebook holds after the body at a point. -/
theorem after0_3 (c : Dev nD) (t : Fin cfg0.N) : (dats m 0 c).after 3 t = iblk m c 3 t := by dsimp only [dats]
/-- What the buffer of level 1's codebook holds after the body at a point. -/
theorem after0_4 (c : Dev nD) (t : Fin cfg0.N) : (dats m 0 c).after 4 t = iblk m c 4 t := by dsimp only [dats]
/-- What the buffer of level 2's codebook holds after the body at a point. -/
theorem after0_5 (c : Dev nD) (t : Fin cfg0.N) : (dats m 0 c).after 5 t = iblk m c 5 t := by dsimp only [dats]
/-- What the buffer of level 0's tokens holds after the body at a point. -/
theorem after0_6 (c : Dev nD) (t : Fin cfg0.N) : (dats m 0 c).after 6 t = tokV0 (X0 m c (cur0 t)) (C0 m c) := by dsimp only [dats]
/-- What the buffer of level 1's tokens holds after the body at a point. -/
theorem after0_7 (c : Dev nD) (t : Fin cfg0.N) : (dats m 0 c).after 7 t = tokV1 (X1 m c (cur1 t)) (C1 m c) := by dsimp only [dats]
/-- What the buffer of level 2's tokens holds after the body at a point. -/
theorem after0_8 (c : Dev nD) (t : Fin cfg0.N) : (dats m 0 c).after 8 t = tokV2 (X2 m c (cur2 t)) (C2 m c) := by dsimp only [dats]
/-- What the buffer of level 0's quantised output holds after the body at a point. -/
theorem after0_9 (c : Dev nD) (t : Fin cfg0.N) : (dats m 0 c).after 9 t = quantV0 (X0 m c (cur0 t)) (C0 m c) := by dsimp only [dats]
/-- What the buffer of level 1's quantised output holds after the body at a point. -/
theorem after0_10 (c : Dev nD) (t : Fin cfg0.N) : (dats m 0 c).after 10 t = quantV1 (X1 m c (cur1 t)) (C1 m c) := by dsimp only [dats]
/-- What the buffer of level 2's quantised output holds after the body at a point. -/
theorem after0_11 (c : Dev nD) (t : Fin cfg0.N) : (dats m 0 c).after 11 t = quantV2 (X2 m c (cur2 t)) (C2 m c) := by dsimp only [dats]
/-- What the buffer of level 0's partial losses holds after the body at a point. -/
theorem after0_12 (c : Dev nD) (t : Fin cfg0.N) : (dats m 0 c).after 12 t = lossV0 (X0 m c (cur0 t)) (C0 m c) := by dsimp only [dats]
/-- What the buffer of level 1's partial losses holds after the body at a point. -/
theorem after0_13 (c : Dev nD) (t : Fin cfg0.N) : (dats m 0 c).after 13 t = lossV1 (X1 m c (cur1 t)) (C1 m c) := by dsimp only [dats]
/-- What the buffer of level 2's partial losses holds after the body at a point. -/
theorem after0_14 (c : Dev nD) (t : Fin cfg0.N) : (dats m 0 c).after 14 t = lossV2 (X2 m c (cur2 t)) (C2 m c) := by dsimp only [dats]

/-- What the buffer of level 0's latent holds before the body at a point: its block. -/
theorem before0_0 (c : Dev nD) (t : Fin cfg0.N) (d) : (dats m 0 c).before 0 t d = iblk m c 0 t :=
  before0_0_of m (dats m 0 c) (A_eq m c 0) (after0_0 m c) t d
/-- What the buffer of level 1's latent holds before the body at a point: its block. -/
theorem before0_1 (c : Dev nD) (t : Fin cfg0.N) (d) : (dats m 0 c).before 1 t d = iblk m c 1 t :=
  before0_1_of m (dats m 0 c) (A_eq m c 1) (after0_1 m c) t d
/-- What the buffer of level 2's latent holds before the body at a point: its block. -/
theorem before0_2 (c : Dev nD) (t : Fin cfg0.N) (d) : (dats m 0 c).before 2 t d = iblk m c 2 t :=
  before0_2_of m (dats m 0 c) (A_eq m c 2) (after0_2 m c) t d
/-- What the buffer of level 0's codebook holds before the body at a point: its block. -/
theorem before0_3 (c : Dev nD) (t : Fin cfg0.N) (d) : (dats m 0 c).before 3 t d = iblk m c 3 t :=
  before0_3_of m (dats m 0 c) (A_eq m c 3) (after0_3 m c) t d
/-- What the buffer of level 1's codebook holds before the body at a point: its block. -/
theorem before0_4 (c : Dev nD) (t : Fin cfg0.N) (d) : (dats m 0 c).before 4 t d = iblk m c 4 t :=
  before0_4_of m (dats m 0 c) (A_eq m c 4) (after0_4 m c) t d
/-- What the buffer of level 2's codebook holds before the body at a point: its block. -/
theorem before0_5 (c : Dev nD) (t : Fin cfg0.N) (d) : (dats m 0 c).before 5 t d = iblk m c 5 t :=
  before0_5_of m (dats m 0 c) (A_eq m c 5) (after0_5 m c) t d

/-! ## The schedule's tables -/

/-- Whether the body leaves window `w` alone at point `n`, -/
def idleB (w n : ℕ) : Bool := decide (6 ≤ w) && (if w % 3 = 0 then !decide (n % 4 ≤ 1) else if w % 3 = 1 then !decide (n % 4 = 2) else !decide (n % 4 = 3))
/-- whether it is written back there, -/
def flushB (w n : ℕ) : Bool := decide (6 ≤ w) && (decide (n % 4 = 3) || (decide (w % 3 = 0) && decide (n % 4 = 0)))
/-- and whether its buffer holds nothing of the body's when the body runs there. -/
def freshB (w n : ℕ) : Bool := if w % 3 = 0 then decide (n % 4 ≤ 1) else if w % 3 = 1 then decide (n % 4 ≤ 2) else true

/-- The points at which the body leaves a window's buffer alone. -/
theorem idle_tab : ∀ (w : Fin cfg0.W) (t : Fin cfg0.N), cfg0.idle w (cfg0.grid.coords t) = idleB w.val t.val :=
  (by decide +kernel : ∀ (w : Fin 15) (t : Fin grid0.N), idle0 w (grid0.coords t) = idleB w.val t.val)

/-- The points at which a window's buffer is written back. -/
theorem flush_tab (w : Fin cfg0.W) (t : Fin cfg0.N) : (cfg0.win w).flush t = flushB w.val t.val := by
  rw [Pipeline.Window.flush_eq_flushF]
  exact (by decide +kernel : ∀ (w : Fin 15) (t : Fin grid0.N), (win0 w).flushF t = flushB w.val t.val) w t

/-- Whether a result's buffer is yet unwritten, from one point to the next. -/
theorem fresh_step : ∀ (w : Fin 15) (t : Fin 8), 6 ≤ w.val → freshB w.val (t.val + 1) = (flushB w.val t.val || (idleB w.val t.val && freshB w.val t.val)) := by decide +kernel

/-- At the first point every result's buffer is unwritten. -/
theorem fresh_zero : ∀ (w : Fin 15), 6 ≤ w.val → freshB w.val 0 = true := by decide +kernel

/-- The points before which a result's buffer is unwritten. -/
theorem fresh_tab' (w : Fin cfg0.W) (hw : 6 ≤ w.val) (t : Fin cfg0.N) : cfg0.fresh w t.val = freshB w.val t.val :=
  cfg0.fresh_tab w (freshB w.val) (fresh_zero w hw)
    (fun t => by rw [flush_tab, idle_tab]; exact fresh_step w (t.cast N_0) hw) t.val (le_of_lt t.isLt)

/-- The results are windows that are written back. -/
theorem isOut_tab : ∀ (w : Fin cfg0.W), 6 ≤ w.val → (cfg0.win w).isOut = true :=
  (by decide +kernel : ∀ (w : Fin 15), 6 ≤ w.val → (win0 w).isOut = true)

/-- No block reaches past its array. -/
theorem clip_tab (w : Fin cfg0.W) (i : cfg0.grid.Coords) (a) : (cfg0.win w).clip i a = none := by
  fin_cases w <;> rfl

/-- A point that does not compute level 0 carries what the point before it held. -/
theorem cur0_carry (t : Fin cfg0.N) (h : 2 ≤ t.val % 4) : cur0 ⟨t.val - 1, by omega⟩ = cur0 t := by
  unfold cur0; apply Fin.ext; simp only; split <;> split <;> omega
/-- A point that does not compute level 1 carries what the point before it held. -/
theorem cur1_carry (t : Fin cfg0.N) (h : t.val % 4 ≠ 0) : cur1 ⟨t.val - 1, by omega⟩ = cur1 t := by
  unfold cur1; apply Fin.ext; simp only; omega
/-- A point that does not compute level 2 carries what the point before it held. -/
theorem cur2_carry (t : Fin cfg0.N) (h : t.val % 4 ≠ 0) : cur2 ⟨t.val - 1, by omega⟩ = cur2 t := by
  unfold cur2; apply Fin.ext; simp only; omega
/-- A point that computes level 0 holds its own. -/
theorem cur0_self (t : Fin cfg0.N) (h : t.val % 4 ≤ 1) : cur0 t = t := by unfold cur0; apply Fin.ext; simp only [if_pos h]
/-- A point that computes level 1 holds its own. -/
theorem cur1_self (t : Fin cfg0.N) (h : t.val % 4 = 2) : cur1 t = t := by unfold cur1; apply Fin.ext; simp only; omega
/-- A point that computes level 2 holds its own. -/
theorem cur2_self (t : Fin cfg0.N) (h : t.val % 4 = 3) : cur2 t = t := by unfold cur2; apply Fin.ext; simp only; omega

/-- At an idle point whose buffer the body has stored to, the contents stated are those stated before. -/
theorem carry (c : Dev nD) (w : Fin cfg0.W) (hw : 6 ≤ w.val) (t : Fin cfg0.N) (hi : idleB w.val t.val = true) (hf : freshB w.val t.val = false) :
    (dats m 0 c).after w t = (dats m 0 c).after w ⟨t.val - 1, by omega⟩ := by
  fin_cases w <;> simp [idleB, freshB] at hi hf hw
  · exact (after0_6 m c t).trans ((congrArg (fun u => tokV0 (X0 m c u) (C0 m c)) (cur0_carry t (by omega)).symm).trans (after0_6 m c _).symm)
  · exact (after0_7 m c t).trans ((congrArg (fun u => tokV1 (X1 m c u) (C1 m c)) (cur1_carry t (by omega)).symm).trans (after0_7 m c _).symm)
  · exact (after0_9 m c t).trans ((congrArg (fun u => quantV0 (X0 m c u) (C0 m c)) (cur0_carry t (by omega)).symm).trans (after0_9 m c _).symm)
  · exact (after0_10 m c t).trans ((congrArg (fun u => quantV1 (X1 m c u) (C1 m c)) (cur1_carry t (by omega)).symm).trans (after0_10 m c _).symm)
  · exact (after0_12 m c t).trans ((congrArg (fun u => lossV0 (X0 m c u) (C0 m c)) (cur0_carry t (by omega)).symm).trans (after0_12 m c _).symm)
  · exact (after0_13 m c t).trans ((congrArg (fun u => lossV1 (X1 m c u) (C1 m c)) (cur1_carry t (by omega)).symm).trans (after0_13 m c _).symm)

/-- So at such a point the body finds the contents stated. -/
theorem held (c : Dev nD) (w : Fin cfg0.W) (hw : 6 ≤ w.val) (t : Fin cfg0.N) (hi : idleB w.val t.val = true) (hf : freshB w.val t.val = false) (d) :
    (dats m 0 c).before w t d = (dats m 0 c).after w t := by
  rw [(dats m 0 c).before_out_traj w (isOut_tab w hw) (clip_tab w)
    (fun t _ hi hf => carry m c w hw t ((idle_tab w t).symm.trans hi) ((fresh_tab' w hw t).symm.trans hf)) t.val t rfl d,
    fresh_tab' w hw, hf, if_neg Bool.false_ne_true, carry m c w hw t hi hf]

/-! ## What the body hands back, window by window -/

/-- What the body must leave of a window that it writes at the point. -/
theorem leaves_live (c : Dev nD) (w : Fin cfg0.W) (t : Fin cfg0.N) (hi : idleB w.val t.val = false) :
    (dats m 0 c).leavesExact w t = owns (c : Thread nD τ) ((cfg0.win w).stage (cfg0.slots t w)) fullShare ((dats m 0 c).after w t) := by
  unfold Dat.leavesExact; rw [idle_tab, hi]

/-- What the body must leave of a window that it does not write and that is not written back at the point. -/
theorem leaves_idle (c : Dev nD) (w : Fin cfg0.W) (t : Fin cfg0.N) (hi : idleB w.val t.val = true) (hf : flushB w.val t.val = false) :
    (dats m 0 c).leavesExact w t = iprop(∃ d, owns (c : Thread nD τ) ((cfg0.win w).stage (cfg0.slots t w)) fullShare ((dats m 0 c).before w t d)) :=
  (dats m 0 c).leavesExact_idle w t ((idle_tab w t).trans hi) ((flush_tab w t).trans hf)

/-- What the body must leave of a window that it does not write but that is written back at the point. -/
theorem leaves_flush (c : Dev nD) (w : Fin cfg0.W) (t : Fin cfg0.N) (hi : idleB w.val t.val = true) (hf : flushB w.val t.val = true) :
    (dats m 0 c).leavesExact w t = owns (c : Thread nD τ) ((cfg0.win w).stage (cfg0.slots t w)) fullShare ((dats m 0 c).after w t) := by
  unfold Dat.leavesExact; rw [idle_tab, hi, flush_tab, hf]

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- Before the first point the scratch holds anything. -/
theorem Phi_zero (c : Dev nD) (t : Fin cfg0.N) (h : t.val = 0) : (dats m 0 c).Φ t.castSucc = Pipeline.ΦA spec0 c :=
  show PhiN m c t.val = _ from if_pos h
/-- Before a later point the scratch holds the norms and the scaled codebooks. -/
theorem Phi_pos (c : Dev nD) (t : Fin cfg0.N) (h : t.val ≠ 0) : (dats m 0 c).Φ t.castSucc = PhiHeld m c :=
  show PhiN m c t.val = _ from if_neg h
/-- After every point the scratch holds the norms and the scaled codebooks. -/
theorem Phi_succ (c : Dev nD) (t : Fin cfg0.N) : (dats m 0 c).Φ t.succ = PhiHeld m c :=
  show PhiN m c (t.val + 1) = _ from if_neg (Nat.succ_ne_zero _)

set_option maxHeartbeats 4000000 in
/-- The first point fills the scratch and codes a level-0 tile. -/
theorem body_A (c : Dev nD) (t : Fin cfg0.N) (h : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [Phi_zero m c t h, Phi_succ m c t, show (dats m 0 c).owesAt () t.succ = (dats m 0 c).owesAt () t.castSucc from rfl, PhiA0_eq]
  unfold PhiHeld
  rw [leaves_live m c 0 t (by simp [idleB])]
  rw [leaves_live m c 1 t (by simp [idleB])]
  rw [leaves_live m c 2 t (by simp [idleB])]
  rw [leaves_live m c 3 t (by simp [idleB])]
  rw [leaves_live m c 4 t (by simp [idleB])]
  rw [leaves_live m c 5 t (by simp [idleB])]
  rw [leaves_live m c 6 t (by simp [idleB]; omega)]
  rw [leaves_live m c 9 t (by simp [idleB]; omega)]
  rw [leaves_live m c 12 t (by simp [idleB]; omega)]
  rw [leaves_idle m c 7 t (by simp [idleB]; omega) (by simp [flushB]; omega)]
  rw [leaves_idle m c 10 t (by simp [idleB]; omega) (by simp [flushB]; omega)]
  rw [leaves_idle m c 13 t (by simp [idleB]; omega) (by simp [flushB]; omega)]
  rw [leaves_idle m c 8 t (by simp [idleB]; omega) (by simp [flushB]; omega)]
  rw [leaves_idle m c 11 t (by simp [idleB]; omega) (by simp [flushB]; omega)]
  rw [leaves_idle m c 14 t (by simp [idleB]; omega) (by simp [flushB]; omega)]
  simp only [before0_0, before0_1, before0_2, before0_3, before0_4, before0_5, after0_0, after0_1, after0_2, after0_3, after0_4, after0_5, after0_6, after0_9, after0_12, cur0_self t (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_A c (grid0.coords t) _ _ _ _ _ _ _ _ _ _ _ _ _ _ _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (X0 m c t) (C0 m c) (C1 m c) (C2 m c) Set.univ _)
  isplitl [H0]; · iexact H0
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [H6]; · iexists _; iexact H6
  isplitl [H9]; · iexists _; iexact H9
  isplitl [H12]; · iexists _; iexact H12
  iintro ⟨H0, H3, H4, H5, HS0, HS1, HS2, HS3, HS4, HS5, H6, H9, H12⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexact H9
  isplitl [H10]; · iexists d10; iexact H10
  isplitl [H11]; · iexists d11; iexact H11
  isplitl [H12]; · iexact H12
  isplitl [H13]; · iexists d13; iexact H13
  iexists d14; iexact H14

set_option maxHeartbeats 4000000 in
/-- A later level-0 point codes its tile. -/
theorem body_B (c : Dev nD) (t : Fin cfg0.N) (h : t.val ≠ 0 ∧ t.val % 4 ≤ 1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [Phi_pos m c t (by omega), Phi_succ m c t, show (dats m 0 c).owesAt () t.succ = (dats m 0 c).owesAt () t.castSucc from rfl]
  unfold PhiHeld
  rw [leaves_live m c 0 t (by simp [idleB])]
  rw [leaves_live m c 1 t (by simp [idleB])]
  rw [leaves_live m c 2 t (by simp [idleB])]
  rw [leaves_live m c 3 t (by simp [idleB])]
  rw [leaves_live m c 4 t (by simp [idleB])]
  rw [leaves_live m c 5 t (by simp [idleB])]
  rw [leaves_live m c 6 t (by simp [idleB]; omega)]
  rw [leaves_live m c 9 t (by simp [idleB]; omega)]
  rw [leaves_live m c 12 t (by simp [idleB]; omega)]
  rw [leaves_idle m c 7 t (by simp [idleB]; omega) (by simp [flushB]; omega)]
  rw [leaves_idle m c 10 t (by simp [idleB]; omega) (by simp [flushB]; omega)]
  rw [leaves_idle m c 13 t (by simp [idleB]; omega) (by simp [flushB]; omega)]
  rw [leaves_idle m c 8 t (by simp [idleB]; omega) (by simp [flushB]; omega)]
  rw [leaves_idle m c 11 t (by simp [idleB]; omega) (by simp [flushB]; omega)]
  rw [leaves_idle m c 14 t (by simp [idleB]; omega) (by simp [flushB]; omega)]
  simp only [before0_0, before0_1, before0_2, before0_3, before0_4, before0_5, after0_0, after0_1, after0_2, after0_3, after0_4, after0_5, after0_6, after0_9, after0_12, cur0_self t (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_B c (grid0.coords t) _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (X0 m c t) (C0 m c) (k0_pay9 (C0 m c)) (k0_pay10 (C0 m c)) Set.univ _)
  isplitl [H0]; · iexact H0
  isplitl [H3]; · iexact H3
  isplitl [HS0]; · iexact HS0
  isplitl [HS1]; · iexact HS1
  isplitl [H6]; · iexists _; iexact H6
  isplitl [H9]; · iexists _; iexact H9
  isplitl [H12]; · iexists _; iexact H12
  iintro ⟨H0, H3, HS0, HS1, H6, H9, H12⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexact H9
  isplitl [H10]; · iexists d10; iexact H10
  isplitl [H11]; · iexists d11; iexact H11
  isplitl [H12]; · iexact H12
  isplitl [H13]; · iexists d13; iexact H13
  iexists d14; iexact H14

set_option maxHeartbeats 4000000 in
/-- A level-1 point codes its tile. -/
theorem body_C (c : Dev nD) (t : Fin cfg0.N) (h : t.val % 4 = 2) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [Phi_pos m c t (by omega), Phi_succ m c t, show (dats m 0 c).owesAt () t.succ = (dats m 0 c).owesAt () t.castSucc from rfl]
  unfold PhiHeld
  rw [leaves_live m c 0 t (by simp [idleB])]
  rw [leaves_live m c 1 t (by simp [idleB])]
  rw [leaves_live m c 2 t (by simp [idleB])]
  rw [leaves_live m c 3 t (by simp [idleB])]
  rw [leaves_live m c 4 t (by simp [idleB])]
  rw [leaves_live m c 5 t (by simp [idleB])]
  rw [leaves_live m c 7 t (by simp [idleB]; omega)]
  rw [leaves_live m c 10 t (by simp [idleB]; omega)]
  rw [leaves_live m c 13 t (by simp [idleB]; omega)]
  rw [leaves_idle m c 6 t (by simp [idleB]; omega) (by simp [flushB]; omega)]
  rw [leaves_idle m c 9 t (by simp [idleB]; omega) (by simp [flushB]; omega)]
  rw [leaves_idle m c 12 t (by simp [idleB]; omega) (by simp [flushB]; omega)]
  rw [leaves_idle m c 8 t (by simp [idleB]; omega) (by simp [flushB]; omega)]
  rw [leaves_idle m c 11 t (by simp [idleB]; omega) (by simp [flushB]; omega)]
  rw [leaves_idle m c 14 t (by simp [idleB]; omega) (by simp [flushB]; omega)]
  simp only [before0_0, before0_1, before0_2, before0_3, before0_4, before0_5, after0_0, after0_1, after0_2, after0_3, after0_4, after0_5, after0_7, after0_10, after0_13, cur1_self t (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_C c (grid0.coords t) _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (X1 m c t) (C1 m c) (k0_pay11 (C1 m c)) (k0_pay12 (C1 m c)) Set.univ _)
  isplitl [H1]; · iexact H1
  isplitl [H4]; · iexact H4
  isplitl [HS2]; · iexact HS2
  isplitl [HS3]; · iexact HS3
  isplitl [H7]; · iexists _; iexact H7
  isplitl [H10]; · iexists _; iexact H10
  isplitl [H13]; · iexists _; iexact H13
  iintro ⟨H1, H4, HS2, HS3, H7, H10, H13⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  isplitl [H8]; · iexists d8; iexact H8
  isplitl [H9]; · iexists d9; iexact H9
  isplitl [H10]; · iexact H10
  isplitl [H11]; · iexists d11; iexact H11
  isplitl [H12]; · iexists d12; iexact H12
  isplitl [H13]; · iexact H13
  iexists d14; iexact H14

set_option maxHeartbeats 4000000 in
/-- A level-2 point codes its tile; the buffers of the other levels, written back here, still hold what they held. -/
theorem body_D (c : Dev nD) (t : Fin cfg0.N) (h : t.val % 4 = 3) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  rw [Phi_pos m c t (by omega), Phi_succ m c t, show (dats m 0 c).owesAt () t.succ = (dats m 0 c).owesAt () t.castSucc from rfl]
  unfold PhiHeld
  rw [leaves_live m c 0 t (by simp [idleB])]
  rw [leaves_live m c 1 t (by simp [idleB])]
  rw [leaves_live m c 2 t (by simp [idleB])]
  rw [leaves_live m c 3 t (by simp [idleB])]
  rw [leaves_live m c 4 t (by simp [idleB])]
  rw [leaves_live m c 5 t (by simp [idleB])]
  rw [leaves_live m c 8 t (by simp [idleB]; omega)]
  rw [leaves_live m c 11 t (by simp [idleB]; omega)]
  rw [leaves_live m c 14 t (by simp [idleB]; omega)]
  rw [leaves_flush m c 6 t (by simp [idleB]; omega) (by simp [flushB]; omega)]
  rw [leaves_flush m c 9 t (by simp [idleB]; omega) (by simp [flushB]; omega)]
  rw [leaves_flush m c 12 t (by simp [idleB]; omega) (by simp [flushB]; omega)]
  rw [leaves_flush m c 7 t (by simp [idleB]; omega) (by simp [flushB]; omega)]
  rw [leaves_flush m c 10 t (by simp [idleB]; omega) (by simp [flushB]; omega)]
  rw [leaves_flush m c 13 t (by simp [idleB]; omega) (by simp [flushB]; omega)]
  simp only [held m c 6 (by decide) t (by simp [idleB]; omega) (by simp [freshB]; omega), held m c 9 (by decide) t (by simp [idleB]; omega) (by simp [freshB]; omega), held m c 12 (by decide) t (by simp [idleB]; omega) (by simp [freshB]; omega), held m c 7 (by decide) t (by simp [idleB]; omega) (by simp [freshB]; omega), held m c 10 (by decide) t (by simp [idleB]; omega) (by simp [freshB]; omega), held m c 13 (by decide) t (by simp [idleB]; omega) (by simp [freshB]; omega)]
  simp only [before0_0, before0_1, before0_2, before0_3, before0_4, before0_5, after0_0, after0_1, after0_2, after0_3, after0_4, after0_5, after0_8, after0_11, after0_14, cur2_self t (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_D c (grid0.coords t) _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (X2 m c t) (C2 m c) (k0_pay13 (C2 m c)) (k0_pay1 (C2 m c) (Scalar.ofBits .f32 0xC0000000#32)) Set.univ _)
  isplitl [H2]; · iexact H2
  isplitl [H5]; · iexact H5
  isplitl [HS4]; · iexact HS4
  isplitl [HS5]; · iexact HS5
  isplitl [H8]; · iexists _; iexact H8
  isplitl [H11]; · iexists _; iexact H11
  isplitl [H14]; · iexists _; iexact H14
  iintro ⟨H2, H5, HS4, HS5, H8, H11, H14⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_A m c t h0
  by_cases h1 : t.val % 4 ≤ 1
  · exact body_B m c t ⟨h0, h1⟩
  by_cases h2 : t.val % 4 = 2
  · exact body_C m c t h2
  · exact body_D m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the kernel leaves of its scratch and register is some contents of them. -/
theorem held_out (c : Dev nD) : PhiHeld m c ⊢ (Pipeline.ΦA spec0 c : sProp 𝕄) := by
  rw [PhiA0_eq]; unfold PhiHeld
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
set_option maxHeartbeats 800000 in
/-- The launch: the arrays end at what the proof data computes, the other buffers at what the host's lines after the
    kernel make of them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (show Pipeline.ΦA spec0 c ⊢ PhiN m c 0 from .rfl)) (hout := fun c => held_out m c)

/-- The run: the arrays end at their last contents, every other buffer at what the host lines after the grid leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run leaves the six arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the idealised kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KI

end
-- ==== Proof.KSame.lean ====
/-
  The kernel as printed and its idealisation are one text, so the frame proved over any floats serves both.
-/
module

public import proofs.«01_k».proof.Proof.Gen.Kernel
public import proofs.«01_k».proof.Proof.Gen.KernelIdeal
public import proofs.«01_k».proof.Proof.KDat
public import Idealize.ShloMosaic.PureOps.BitExact

@[expose] public section

set_option maxRecDepth 16384
set_option backward.isDefEq.respectTransparency.types false
set_option backward.isDefEq.respectTransparency false
set_option maxHeartbeats 1000000

noncomputable section

namespace Cert.Proof.Same

open Idealize.ShloMosaic Idealize.SL.Sem

attribute [local instance] Cert.Kernel.Gen.facts Cert.KernelIdeal.Gen.facts

/-- The two tables of bodies are one. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun ⟨t, s⟩ => rfl

/-- The two tables of regions are one. -/
theorem defs_eq : Cert.Kernel.defs (F := Bits) = Cert.KernelIdeal.defs (F := Bits) :=
  congrArg (Pipeline.defs (Cert.Kernel.pcfgs (F := Bits))) bodies_eq

/-- The two entry functions are one. -/
theorem main_eq : Cert.Kernel.main (F := Bits) = Cert.KernelIdeal.main (F := Bits) := rfl

/-- The frame claim of the kernel as printed. -/
theorem frame (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0) ∧
        r.2.mem ((c.tc : Thread Cert.Kernel.nD Cert.Kernel.τ).loc Cert.Kernel.main_arg1) = m ((c.tc : Thread Cert.Kernel.nD Cert.Kernel.τ).loc Cert.Kernel.main_arg1) ∧
        r.2.mem ((c.tc : Thread Cert.Kernel.nD Cert.Kernel.τ).loc Cert.Kernel.main_arg2) = m ((c.tc : Thread Cert.Kernel.nD Cert.Kernel.τ).loc Cert.Kernel.main_arg2) ∧
        r.2.mem ((c.tc : Thread Cert.Kernel.nD Cert.Kernel.τ).loc Cert.Kernel.main_arg3) = m ((c.tc : Thread Cert.Kernel.nD Cert.Kernel.τ).loc Cert.Kernel.main_arg3) ∧
        r.2.mem ((c.tc : Thread Cert.Kernel.nD Cert.Kernel.τ).loc Cert.Kernel.main_arg4) = m ((c.tc : Thread Cert.Kernel.nD Cert.Kernel.τ).loc Cert.Kernel.main_arg4) ∧
        r.2.mem ((c.tc : Thread Cert.Kernel.nD Cert.Kernel.τ).loc Cert.Kernel.main_arg5) = m ((c.tc : Thread Cert.Kernel.nD Cert.Kernel.τ).loc Cert.Kernel.main_arg5))
        ∧ r.2.sem = fun _ => 0) := by
  rw [defs_eq]
  exact Cert.Proof.KI.frame (F := Bits) m ρ

end Cert.Proof.Same

end
-- ==== Proof.RefOps.lean ====
/-
  The reference program as a straight line of host operations, and its run: from any memory whose counters are zero every
  execution of @main ends, and every buffer then holds the operations' results folded over what it held at launch.
  The line is cut into four stretches per level: the distances, the search for the nearest code word, the reading of
  that code word, and the rest (loss, quantised output, tokens).
-/
module

public import Idealize.ShloMosaic.Lib.StableHlo.Run
public import proofs.«01_k».proof.Proof.Gen.ReferenceIdeal

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem

variable {F : FTy → Type} [FloatOps F]

/-- The operations of segment `dist0` of @main, in order. -/
abbrev dist0 : List (HloOp τ sig (Elt F)) :=
  [ unary main_arg0 main_v0 ((transpose S2x4096x256 [0, 2, 1] · transposes_S2x256x4096_S2x4096x256_0_2_1)),
    reshape main_v0 main_v1 (rfl : (.f32 : EltTy) = .f32) shapeCasts_S2x4096x256_S8192x256,
    unary main_arg5 main_v2 ((transpose S256x2048 [1, 0] · transposes_S2048x256_S256x2048_1_0)),
    binary main_v1 main_v1 main_v3 (mulf),
    nullary main_cst (constant S_ .f32 0x00000000#32),
    binary main_v3 main_cst main_v4 ((fun x v => Host.reduceAdd x v reducesTo_S8192x256_S8192_d1 h_S_)),
    unary main_v4 main_v5 (broadcastInDim S8192x1 ![0] bcast_S8192_S8192x1_0),
    binary main_v1 main_v2 main_v6 ((fun l r => Host.dotGeneral dot_S8192x256_S256x2048_S8192x2048_1_0_0_1_n_n none l r)),
    nullary main_cst_0 (constant S_ .f32 0x40000000#32),
    unary main_cst_0 main_v7 (broadcastInDim S8192x2048 ![] bcast_S_S8192x2048),
    binary main_v7 main_v6 main_v8 (mulf),
    unary main_v5 main_v9 (broadcastInDim S8192x2048 ![0, 1] bcast_S8192x1_S8192x2048_0_1),
    binary main_v9 main_v8 main_v10 (subf),
    binary main_v2 main_v2 main_v11 (mulf),
    nullary main_cst_1 (constant S_ .f32 0x00000000#32),
    binary main_v11 main_cst_1 main_v12 ((fun x v => Host.reduceAdd x v reducesTo_S256x2048_S2048_d0 h_S_)),
    unary main_v12 main_v13 (broadcastInDim S1x2048 ![1] bcast_S2048_S1x2048_1),
    unary main_v13 main_v14 (broadcastInDim S8192x2048 ![0, 1] bcast_S1x2048_S8192x2048_0_1),
    binary main_v10 main_v14 main_v15 (addf) ]

/-- The operations of segment `argmin0` of @main, in order. -/
abbrev argmin0 : List (HloOp τ sig (Elt F)) :=
  [ nullary main_call0_v0 (iotaInDim S8192x2048 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S8192x2048_S8192_d1 h_S_ j).1),
    quaternary main_v15 main_call0_v0 main_call0_cst main_call0_c main_v16 (fun x y u v j => (Host.argReduce reducer_argmin_f32_i32 x y u v reducesTo_S8192x2048_S8192_d1 h_S_ j).2) ]

/-- The operations of segment `take0` of @main, in order. -/
abbrev take0 : List (HloOp τ sig (Elt F)) :=
  [ nullary main_call1_c (constantI S_ 32 0#32),
    unary main_call1_c main_call1_v0 (broadcastInDim S8192 ![] bcast_S_S8192),
    binary main_v16 main_call1_v0 main_call1_v1 (cmpi .slt),
    nullary main_call1_c_0 (constantI S_ 32 2048#32),
    unary main_call1_c_0 main_call1_v2 (broadcastInDim S8192 ![] bcast_S_S8192),
    binary main_v16 main_call1_v2 main_call1_v3 addi,
    ternary main_call1_v1 main_call1_v3 main_v16 main_call1_v4 select,
    unary main_call1_v4 main_call1_v5 (broadcastInDim S8192x1 ![0] bcast_S8192_S8192x1_0),
    nullary main_call1_c_1 (constantI S1 32 2047#32),
    nullary main_call1_c_2 (constantI S_ 32 0#32),
    unary main_call1_c_2 main_call1_v6 (broadcastInDim S8192x1 ![] bcast_S_S8192x1),
    binary main_call1_v5 main_call1_v6 main_call1_v7 (cmpi .sge),
    unary main_call1_c_1 main_call1_v8 (broadcastInDim S1x1 ![1] bcast_S1_S1x1_1),
    unary main_call1_v8 main_call1_v9 (broadcastInDim S8192x1 ![0, 1] bcast_S1x1_S8192x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S8192x1_S8192_d1 h_S_),
    binary main_arg5 main_call1_v5 main_call1_v13 (fun x i => Host.gather gather_S2048x256_S8192x1_S8192x256_1_0_n_n_0_1_1256 x i),
    unary main_call1_v12 main_call1_v14 (broadcastInDim S8192x256 ![0] bcast_S8192_S8192x256_0),
    nullary main_call1_cst (constant S_ .f32 0x7FC00000#32),
    unary main_call1_cst main_call1_v15 (broadcastInDim S8192x256 ![] bcast_S_S8192x256),
    ternary main_call1_v14 main_call1_v13 main_call1_v15 main_v17 select ]

/-- The operations of segment `rest0` of @main, in order. -/
abbrev rest0 : List (HloOp τ sig (Elt F)) :=
  [ binary main_v17 main_v1 main_v18 (subf),
    binary main_v18 main_v18 main_call2_v0 mulf,
    nullary main_call2_cst (constant S_ .f32 0x00000000#32),
    binary main_call2_v0 main_call2_cst main_call2_v1 (fun x v => Host.reduceAdd x v reducesTo_S8192x256_S_d0_1 h_S_),
    unary main_call2_v1 main_v19 Host.sqrt,
    binary main_v19 main_v19 main_v20 (mulf),
    nullary main_cst_2 (constant S_ .f32 0x4A000000#32),
    binary main_v20 main_cst_2 main_v21 (Host.divf),
    binary main_v17 main_v1 main_v22 (subf),
    binary main_v1 main_v22 main_v23 (addf),
    reshape main_v16 main_v24 (rfl : (.i32 : EltTy) = .i32) shapeCasts_S8192_S2x4096,
    reshape main_v23 main_v25 (rfl : (.f32 : EltTy) = .f32) shapeCasts_S8192x256_S2x4096x256,
    unary main_v25 main_v26 ((transpose S2x256x4096 [0, 2, 1] · transposes_S2x4096x256_S2x256x4096_0_2_1)) ]

/-- The operations of segment `dist1` of @main, in order. -/
abbrev dist1 : List (HloOp τ sig (Elt F)) :=
  [ unary main_arg1 main_v27 ((transpose S2x1024x256 [0, 2, 1] · transposes_S2x256x1024_S2x1024x256_0_2_1)),
    reshape main_v27 main_v28 (rfl : (.f32 : EltTy) = .f32) shapeCasts_S2x1024x256_S2048x256,
    unary main_arg4 main_v29 ((transpose S256x2048 [1, 0] · transposes_S2048x256_S256x2048_1_0)),
    binary main_v28 main_v28 main_v30 (mulf),
    nullary main_cst_3 (constant S_ .f32 0x00000000#32),
    binary main_v30 main_cst_3 main_v31 ((fun x v => Host.reduceAdd x v reducesTo_S2048x256_S2048_d1 h_S_)),
    unary main_v31 main_v32 (broadcastInDim S2048x1 ![0] bcast_S2048_S2048x1_0),
    binary main_v28 main_v29 main_v33 ((fun l r => Host.dotGeneral dot_S2048x256_S256x2048_S2048x2048_1_0_0_1_n_n none l r)),
    nullary main_cst_4 (constant S_ .f32 0x40000000#32),
    unary main_cst_4 main_v34 (broadcastInDim S2048x2048 ![] bcast_S_S2048x2048),
    binary main_v34 main_v33 main_v35 (mulf),
    unary main_v32 main_v36 (broadcastInDim S2048x2048 ![0, 1] bcast_S2048x1_S2048x2048_0_1),
    binary main_v36 main_v35 main_v37 (subf),
    binary main_v29 main_v29 main_v38 (mulf),
    nullary main_cst_5 (constant S_ .f32 0x00000000#32),
    binary main_v38 main_cst_5 main_v39 ((fun x v => Host.reduceAdd x v reducesTo_S256x2048_S2048_d0 h_S_)),
    unary main_v39 main_v40 (broadcastInDim S1x2048 ![1] bcast_S2048_S1x2048_1),
    unary main_v40 main_v41 (broadcastInDim S2048x2048 ![0, 1] bcast_S1x2048_S2048x2048_0_1),
    binary main_v37 main_v41 main_v42 (addf) ]

/-- The operations of segment `argmin1` of @main, in order. -/
abbrev argmin1 : List (HloOp τ sig (Elt F)) :=
  [ nullary main_call3_v0 (iotaInDim S2048x2048 32 1),
    nullary main_call3_cst (constant S_ .f32 0x7F800000#32),
    nullary main_call3_c (constantI S_ 32 0#32),
    quaternary main_v42 main_call3_v0 main_call3_cst main_call3_c main_call3_v1_0 (fun x y u v j => (Host.argReduce reducer_argmin_f32_i32 x y u v reducesTo_S2048x2048_S2048_d1 h_S_ j).1),
    quaternary main_v42 main_call3_v0 main_call3_cst main_call3_c main_v43 (fun x y u v j => (Host.argReduce reducer_argmin_f32_i32 x y u v reducesTo_S2048x2048_S2048_d1 h_S_ j).2) ]

/-- The operations of segment `take1` of @main, in order. -/
abbrev take1 : List (HloOp τ sig (Elt F)) :=
  [ nullary main_call4_c (constantI S_ 32 0#32),
    unary main_call4_c main_call4_v0 (broadcastInDim S2048 ![] bcast_S_S2048),
    binary main_v43 main_call4_v0 main_call4_v1 (cmpi .slt),
    nullary main_call4_c_0 (constantI S_ 32 2048#32),
    unary main_call4_c_0 main_call4_v2 (broadcastInDim S2048 ![] bcast_S_S2048),
    binary main_v43 main_call4_v2 main_call4_v3 addi,
    ternary main_call4_v1 main_call4_v3 main_v43 main_call4_v4 select,
    unary main_call4_v4 main_call4_v5 (broadcastInDim S2048x1 ![0] bcast_S2048_S2048x1_0),
    nullary main_call4_c_1 (constantI S1 32 2047#32),
    nullary main_call4_c_2 (constantI S_ 32 0#32),
    unary main_call4_c_2 main_call4_v6 (broadcastInDim S2048x1 ![] bcast_S_S2048x1),
    binary main_call4_v5 main_call4_v6 main_call4_v7 (cmpi .sge),
    unary main_call4_c_1 main_call4_v8 (broadcastInDim S1x1 ![1] bcast_S1_S1x1_1),
    unary main_call4_v8 main_call4_v9 (broadcastInDim S2048x1 ![0, 1] bcast_S1x1_S2048x1_0_1),
    binary main_call4_v5 main_call4_v9 main_call4_v10 (cmpi .sle),
    binary main_call4_v7 main_call4_v10 main_call4_v11 andi,
    nullary main_call4_c_3 (constantI S_ 1 1#1),
    binary main_call4_v11 main_call4_c_3 main_call4_v12 (fun x v => Host.reduce IntOp.andi x v reducesTo_S2048x1_S2048_d1 h_S_),
    binary main_arg4 main_call4_v5 main_call4_v13 (fun x i => Host.gather gather_S2048x256_S2048x1_S2048x256_1_0_n_n_0_1_1256 x i),
    unary main_call4_v12 main_call4_v14 (broadcastInDim S2048x256 ![0] bcast_S2048_S2048x256_0),
    nullary main_call4_cst (constant S_ .f32 0x7FC00000#32),
    unary main_call4_cst main_call4_v15 (broadcastInDim S2048x256 ![] bcast_S_S2048x256),
    ternary main_call4_v14 main_call4_v13 main_call4_v15 main_v44 select ]

/-- The operations of segment `rest1` of @main, in order. -/
abbrev rest1 : List (HloOp τ sig (Elt F)) :=
  [ binary main_v44 main_v28 main_v45 (subf),
    binary main_v45 main_v45 main_call5_v0 mulf,
    nullary main_call5_cst (constant S_ .f32 0x00000000#32),
    binary main_call5_v0 main_call5_cst main_call5_v1 (fun x v => Host.reduceAdd x v reducesTo_S2048x256_S_d0_1 h_S_),
    unary main_call5_v1 main_v46 Host.sqrt,
    binary main_v46 main_v46 main_v47 (mulf),
    nullary main_cst_6 (constant S_ .f32 0x49000000#32),
    binary main_v47 main_cst_6 main_v48 (Host.divf),
    binary main_v44 main_v28 main_v49 (subf),
    binary main_v28 main_v49 main_v50 (addf),
    reshape main_v43 main_v51 (rfl : (.i32 : EltTy) = .i32) shapeCasts_S2048_S2x1024,
    reshape main_v50 main_v52 (rfl : (.f32 : EltTy) = .f32) shapeCasts_S2048x256_S2x1024x256,
    unary main_v52 main_v53 ((transpose S2x256x1024 [0, 2, 1] · transposes_S2x1024x256_S2x256x1024_0_2_1)) ]

/-- The operations of segment `dist2` of @main, in order. -/
abbrev dist2 : List (HloOp τ sig (Elt F)) :=
  [ unary main_arg2 main_v54 ((transpose S2x256x256 [0, 2, 1] · transposes_S2x256x256_S2x256x256_0_2_1)),
    reshape main_v54 main_v55 (rfl : (.f32 : EltTy) = .f32) shapeCasts_S2x256x256_S512x256,
    unary main_arg3 main_v56 ((transpose S256x2048 [1, 0] · transposes_S2048x256_S256x2048_1_0)),
    binary main_v55 main_v55 main_v57 (mulf),
    nullary main_cst_7 (constant S_ .f32 0x00000000#32),
    binary main_v57 main_cst_7 main_v58 ((fun x v => Host.reduceAdd x v reducesTo_S512x256_S512_d1 h_S_)),
    unary main_v58 main_v59 (broadcastInDim S512x1 ![0] bcast_S512_S512x1_0),
    binary main_v55 main_v56 main_v60 ((fun l r => Host.dotGeneral dot_S512x256_S256x2048_S512x2048_1_0_0_1_n_n none l r)),
    nullary main_cst_8 (constant S_ .f32 0x40000000#32),
    unary main_cst_8 main_v61 (broadcastInDim S512x2048 ![] bcast_S_S512x2048),
    binary main_v61 main_v60 main_v62 (mulf),
    unary main_v59 main_v63 (broadcastInDim S512x2048 ![0, 1] bcast_S512x1_S512x2048_0_1),
    binary main_v63 main_v62 main_v64 (subf),
    binary main_v56 main_v56 main_v65 (mulf),
    nullary main_cst_9 (constant S_ .f32 0x00000000#32),
    binary main_v65 main_cst_9 main_v66 ((fun x v => Host.reduceAdd x v reducesTo_S256x2048_S2048_d0 h_S_)),
    unary main_v66 main_v67 (broadcastInDim S1x2048 ![1] bcast_S2048_S1x2048_1),
    unary main_v67 main_v68 (broadcastInDim S512x2048 ![0, 1] bcast_S1x2048_S512x2048_0_1),
    binary main_v64 main_v68 main_v69 (addf) ]

/-- The operations of segment `argmin2` of @main, in order. -/
abbrev argmin2 : List (HloOp τ sig (Elt F)) :=
  [ nullary main_call6_v0 (iotaInDim S512x2048 32 1),
    nullary main_call6_cst (constant S_ .f32 0x7F800000#32),
    nullary main_call6_c (constantI S_ 32 0#32),
    quaternary main_v69 main_call6_v0 main_call6_cst main_call6_c main_call6_v1_0 (fun x y u v j => (Host.argReduce reducer_argmin_f32_i32 x y u v reducesTo_S512x2048_S512_d1 h_S_ j).1),
    quaternary main_v69 main_call6_v0 main_call6_cst main_call6_c main_v70 (fun x y u v j => (Host.argReduce reducer_argmin_f32_i32 x y u v reducesTo_S512x2048_S512_d1 h_S_ j).2) ]

/-- The operations of segment `take2` of @main, in order. -/
abbrev take2 : List (HloOp τ sig (Elt F)) :=
  [ nullary main_call7_c (constantI S_ 32 0#32),
    unary main_call7_c main_call7_v0 (broadcastInDim S512 ![] bcast_S_S512),
    binary main_v70 main_call7_v0 main_call7_v1 (cmpi .slt),
    nullary main_call7_c_0 (constantI S_ 32 2048#32),
    unary main_call7_c_0 main_call7_v2 (broadcastInDim S512 ![] bcast_S_S512),
    binary main_v70 main_call7_v2 main_call7_v3 addi,
    ternary main_call7_v1 main_call7_v3 main_v70 main_call7_v4 select,
    unary main_call7_v4 main_call7_v5 (broadcastInDim S512x1 ![0] bcast_S512_S512x1_0),
    nullary main_call7_c_1 (constantI S1 32 2047#32),
    nullary main_call7_c_2 (constantI S_ 32 0#32),
    unary main_call7_c_2 main_call7_v6 (broadcastInDim S512x1 ![] bcast_S_S512x1),
    binary main_call7_v5 main_call7_v6 main_call7_v7 (cmpi .sge),
    unary main_call7_c_1 main_call7_v8 (broadcastInDim S1x1 ![1] bcast_S1_S1x1_1),
    unary main_call7_v8 main_call7_v9 (broadcastInDim S512x1 ![0, 1] bcast_S1x1_S512x1_0_1),
    binary main_call7_v5 main_call7_v9 main_call7_v10 (cmpi .sle),
    binary main_call7_v7 main_call7_v10 main_call7_v11 andi,
    nullary main_call7_c_3 (constantI S_ 1 1#1),
    binary main_call7_v11 main_call7_c_3 main_call7_v12 (fun x v => Host.reduce IntOp.andi x v reducesTo_S512x1_S512_d1 h_S_),
    binary main_arg3 main_call7_v5 main_call7_v13 (fun x i => Host.gather gather_S2048x256_S512x1_S512x256_1_0_n_n_0_1_1256 x i),
    unary main_call7_v12 main_call7_v14 (broadcastInDim S512x256 ![0] bcast_S512_S512x256_0),
    nullary main_call7_cst (constant S_ .f32 0x7FC00000#32),
    unary main_call7_cst main_call7_v15 (broadcastInDim S512x256 ![] bcast_S_S512x256),
    ternary main_call7_v14 main_call7_v13 main_call7_v15 main_v71 select ]

/-- The operations of segment `rest2` of @main, in order. -/
abbrev rest2 : List (HloOp τ sig (Elt F)) :=
  [ binary main_v71 main_v55 main_v72 (subf),
    binary main_v72 main_v72 main_call8_v0 mulf,
    nullary main_call8_cst (constant S_ .f32 0x00000000#32),
    binary main_call8_v0 main_call8_cst main_call8_v1 (fun x v => Host.reduceAdd x v reducesTo_S512x256_S_d0_1 h_S_),
    unary main_call8_v1 main_v73 Host.sqrt,
    binary main_v73 main_v73 main_v74 (mulf),
    nullary main_cst_10 (constant S_ .f32 0x48000000#32),
    binary main_v74 main_cst_10 main_v75 (Host.divf),
    binary main_v71 main_v55 main_v76 (subf),
    binary main_v55 main_v76 main_v77 (addf),
    reshape main_v70 main_v78 (rfl : (.i32 : EltTy) = .i32) shapeCasts_S512_S2x256,
    reshape main_v77 main_v79 (rfl : (.f32 : EltTy) = .f32) shapeCasts_S512x256_S2x256x256,
    unary main_v79 main_v80 ((transpose S2x256x256 [0, 2, 1] · transposes_S2x256x256_S2x256x256_0_2_1)) ]

/-- All of @main's operations, in order. -/
abbrev ops : List (HloOp τ sig (Elt F)) :=
  dist0 ++ (argmin0 ++ (take0 ++ (rest0 ++ (dist1 ++ (argmin1 ++ (take1 ++ (rest1 ++ (dist2 ++ (argmin2 ++ (take2 ++ rest2))))))))))

set_option maxHeartbeats 4000000 in
/-- @main is that straight line. -/
theorem main_eq (c : Dev nD) : main (F := F) c = seq ops := rfl

/-- Nothing is scoped on this signature: no buffer, -/
theorem scopedRefs_eq : (Finset.univ.filter fun b : Ref sig .tc => b.isScoped) = ∅ := by decide +kernel
/-- and no semaphore. -/
theorem scopedSems_eq : (Finset.univ.filter fun sm : SemLoc sig => sm.isScoped .tc) = ∅ := by decide +kernel

/-- An operation that touches buffers of the tensor core only and determines all its results. -/
abbrev Plain (op : HloOp τ sig (Elt F)) : Prop := op.bufs ⊆ tcRefs τ sig ∧ op.fresh = ∅

/-- Segment `dist0` is plain. -/
theorem dist0_plain : (dist0 : List (HloOp τ sig (Elt F))).Forall Plain :=
  ⟨⟨unary_bufs_sub .., rfl⟩, ⟨reshape_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩⟩
/-- Segment `argmin0` is plain. -/
theorem argmin0_plain : (argmin0 : List (HloOp τ sig (Elt F))).Forall Plain :=
  ⟨⟨nullary_bufs_sub .., rfl⟩, ⟨nullary_bufs_sub .., rfl⟩, ⟨nullary_bufs_sub .., rfl⟩, ⟨quaternary_bufs_sub .., rfl⟩, ⟨quaternary_bufs_sub .., rfl⟩⟩
/-- Segment `take0` is plain. -/
theorem take0_plain : (take0 : List (HloOp τ sig (Elt F))).Forall Plain :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩
/-- Segment `rest0` is plain. -/
theorem rest0_plain : (rest0 : List (HloOp τ sig (Elt F))).Forall Plain :=
  ⟨⟨binary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨binary_bufs_sub .., rfl⟩, ⟨binary_bufs_sub .., rfl⟩, ⟨binary_bufs_sub .., rfl⟩, ⟨reshape_bufs_sub .., rfl⟩, ⟨reshape_bufs_sub .., rfl⟩, ⟨unary_bufs_sub .., rfl⟩⟩
/-- Segment `dist1` is plain. -/
theorem dist1_plain : (dist1 : List (HloOp τ sig (Elt F))).Forall Plain :=
  ⟨⟨unary_bufs_sub .., rfl⟩, ⟨reshape_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩⟩
/-- Segment `argmin1` is plain. -/
theorem argmin1_plain : (argmin1 : List (HloOp τ sig (Elt F))).Forall Plain :=
  ⟨⟨nullary_bufs_sub .., rfl⟩, ⟨nullary_bufs_sub .., rfl⟩, ⟨nullary_bufs_sub .., rfl⟩, ⟨quaternary_bufs_sub .., rfl⟩, ⟨quaternary_bufs_sub .., rfl⟩⟩
/-- Segment `take1` is plain. -/
theorem take1_plain : (take1 : List (HloOp τ sig (Elt F))).Forall Plain :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩
/-- Segment `rest1` is plain. -/
theorem rest1_plain : (rest1 : List (HloOp τ sig (Elt F))).Forall Plain :=
  ⟨⟨binary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨binary_bufs_sub .., rfl⟩, ⟨binary_bufs_sub .., rfl⟩, ⟨binary_bufs_sub .., rfl⟩, ⟨reshape_bufs_sub .., rfl⟩, ⟨reshape_bufs_sub .., rfl⟩, ⟨unary_bufs_sub .., rfl⟩⟩
/-- Segment `dist2` is plain. -/
theorem dist2_plain : (dist2 : List (HloOp τ sig (Elt F))).Forall Plain :=
  ⟨⟨unary_bufs_sub .., rfl⟩, ⟨reshape_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩⟩
/-- Segment `argmin2` is plain. -/
theorem argmin2_plain : (argmin2 : List (HloOp τ sig (Elt F))).Forall Plain :=
  ⟨⟨nullary_bufs_sub .., rfl⟩, ⟨nullary_bufs_sub .., rfl⟩, ⟨nullary_bufs_sub .., rfl⟩, ⟨quaternary_bufs_sub .., rfl⟩, ⟨quaternary_bufs_sub .., rfl⟩⟩
/-- Segment `take2` is plain. -/
theorem take2_plain : (take2 : List (HloOp τ sig (Elt F))).Forall Plain :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩
/-- Segment `rest2` is plain. -/
theorem rest2_plain : (rest2 : List (HloOp τ sig (Elt F))).Forall Plain :=
  ⟨⟨binary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨binary_bufs_sub .., rfl⟩, ⟨binary_bufs_sub .., rfl⟩, ⟨binary_bufs_sub .., rfl⟩, ⟨reshape_bufs_sub .., rfl⟩, ⟨reshape_bufs_sub .., rfl⟩, ⟨unary_bufs_sub .., rfl⟩⟩

/-- Every operation is plain. -/
theorem ops_plain : ∀ op ∈ (ops : List (HloOp τ sig (Elt F))), Plain op := by
  simp only [ops, List.forall_mem_append]
  simp only [← List.forall_iff_forall_mem]
  exact ⟨dist0_plain, argmin0_plain, take0_plain, rest0_plain, dist1_plain, argmin1_plain, take1_plain, rest1_plain,
    dist2_plain, argmin2_plain, take2_plain, rest2_plain⟩

set_option maxHeartbeats 4000000 in
/-- The run: every buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq
    (fun _ => List.forall_iff_forall_mem.mpr fun op h => (ops_plain op h).1) m ρ (fun _ op h => (ops_plain op h).2)

end Cert.Proof.Ref

end
-- ==== Proof.RefKeep.lean ====
/-
  What each level of the reference's straight line writes, and what it therefore leaves alone; the frame of the
  reference: its arguments end unchanged and it declares no semaphore.
-/
module

public import Idealize.ShloMosaic.Lib.StableHlo.RunRead
public import Idealize.ShloMosaic.Lib.Pipeline.Frame
public import Idealize.ShloMosaic.Lib.Quiescent
public import proofs.«01_k».proof.Proof.RefOps

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem

variable {F : FTy → Type} [FloatOps F]

/-- What segment `dist0` writes. -/
abbrev dist0W : List (Ref sig .tc) := [main_v0, main_v1, main_v2, main_v3, main_cst, main_v4, main_v5, main_v6, main_cst_0, main_v7, main_v8, main_v9, main_v10, main_v11, main_cst_1, main_v12, main_v13, main_v14, main_v15]
/-- Segment `dist0` changes nothing else. -/
theorem dist0_keep (V : Valuation τ sig (Elt F)) {r : Ref sig .tc} (h : r ∉ dist0W) : after dist0 V (Proc.devRef .tc r) = V (Proc.devRef .tc r) :=
  after_unwritten dist0W rfl h V

/-- What segment `argmin0` writes. -/
abbrev argmin0W : List (Ref sig .tc) := [main_call0_v0, main_call0_cst, main_call0_c, main_call0_v1_0, main_v16]
/-- Segment `argmin0` changes nothing else. -/
theorem argmin0_keep (V : Valuation τ sig (Elt F)) {r : Ref sig .tc} (h : r ∉ argmin0W) : after argmin0 V (Proc.devRef .tc r) = V (Proc.devRef .tc r) :=
  after_unwritten argmin0W rfl h V

/-- What segment `take0` writes. -/
abbrev take0W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]
/-- Segment `take0` changes nothing else. -/
theorem take0_keep (V : Valuation τ sig (Elt F)) {r : Ref sig .tc} (h : r ∉ take0W) : after take0 V (Proc.devRef .tc r) = V (Proc.devRef .tc r) :=
  after_unwritten take0W rfl h V

/-- What segment `rest0` writes. -/
abbrev rest0W : List (Ref sig .tc) := [main_v18, main_call2_v0, main_call2_cst, main_call2_v1, main_v19, main_v20, main_cst_2, main_v21, main_v22, main_v23, main_v24, main_v25, main_v26]
/-- Segment `rest0` changes nothing else. -/
theorem rest0_keep (V : Valuation τ sig (Elt F)) {r : Ref sig .tc} (h : r ∉ rest0W) : after rest0 V (Proc.devRef .tc r) = V (Proc.devRef .tc r) :=
  after_unwritten rest0W rfl h V

/-- The operations of level 0, in order. -/
abbrev lev0 : List (HloOp τ sig (Elt F)) := dist0 ++ (argmin0 ++ (take0 ++ rest0))
/-- The buffers after level 0: its four segments one after the other. -/
theorem lev0_after (V : Valuation τ sig (Elt F)) : after lev0 V = after rest0 (after take0 (after argmin0 (after dist0 V))) := by
  rw [after_append, after_append, after_append]
/-- Level 0 leaves alone whatever its segments do not write. -/
theorem lev0_keep (V : Valuation τ sig (Elt F)) {r : Ref sig .tc} (h : r ∉ dist0W ++ (argmin0W ++ (take0W ++ rest0W))) :
    after lev0 V (Proc.devRef .tc r) = V (Proc.devRef .tc r) := by
  simp only [List.mem_append, not_or] at h
  rw [lev0_after, rest0_keep _ h.2.2.2, take0_keep _ h.2.2.1, argmin0_keep _ h.2.1, dist0_keep _ h.1]

/-- What segment `dist1` writes. -/
abbrev dist1W : List (Ref sig .tc) := [main_v27, main_v28, main_v29, main_v30, main_cst_3, main_v31, main_v32, main_v33, main_cst_4, main_v34, main_v35, main_v36, main_v37, main_v38, main_cst_5, main_v39, main_v40, main_v41, main_v42]
/-- Segment `dist1` changes nothing else. -/
theorem dist1_keep (V : Valuation τ sig (Elt F)) {r : Ref sig .tc} (h : r ∉ dist1W) : after dist1 V (Proc.devRef .tc r) = V (Proc.devRef .tc r) :=
  after_unwritten dist1W rfl h V

/-- What segment `argmin1` writes. -/
abbrev argmin1W : List (Ref sig .tc) := [main_call3_v0, main_call3_cst, main_call3_c, main_call3_v1_0, main_v43]
/-- Segment `argmin1` changes nothing else. -/
theorem argmin1_keep (V : Valuation τ sig (Elt F)) {r : Ref sig .tc} (h : r ∉ argmin1W) : after argmin1 V (Proc.devRef .tc r) = V (Proc.devRef .tc r) :=
  after_unwritten argmin1W rfl h V

/-- What segment `take1` writes. -/
abbrev take1W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v44]
/-- Segment `take1` changes nothing else. -/
theorem take1_keep (V : Valuation τ sig (Elt F)) {r : Ref sig .tc} (h : r ∉ take1W) : after take1 V (Proc.devRef .tc r) = V (Proc.devRef .tc r) :=
  after_unwritten take1W rfl h V

/-- What segment `rest1` writes. -/
abbrev rest1W : List (Ref sig .tc) := [main_v45, main_call5_v0, main_call5_cst, main_call5_v1, main_v46, main_v47, main_cst_6, main_v48, main_v49, main_v50, main_v51, main_v52, main_v53]
/-- Segment `rest1` changes nothing else. -/
theorem rest1_keep (V : Valuation τ sig (Elt F)) {r : Ref sig .tc} (h : r ∉ rest1W) : after rest1 V (Proc.devRef .tc r) = V (Proc.devRef .tc r) :=
  after_unwritten rest1W rfl h V

/-- The operations of level 1, in order. -/
abbrev lev1 : List (HloOp τ sig (Elt F)) := dist1 ++ (argmin1 ++ (take1 ++ rest1))
/-- The buffers after level 1: its four segments one after the other. -/
theorem lev1_after (V : Valuation τ sig (Elt F)) : after lev1 V = after rest1 (after take1 (after argmin1 (after dist1 V))) := by
  rw [after_append, after_append, after_append]
/-- Level 1 leaves alone whatever its segments do not write. -/
theorem lev1_keep (V : Valuation τ sig (Elt F)) {r : Ref sig .tc} (h : r ∉ dist1W ++ (argmin1W ++ (take1W ++ rest1W))) :
    after lev1 V (Proc.devRef .tc r) = V (Proc.devRef .tc r) := by
  simp only [List.mem_append, not_or] at h
  rw [lev1_after, rest1_keep _ h.2.2.2, take1_keep _ h.2.2.1, argmin1_keep _ h.2.1, dist1_keep _ h.1]

/-- What segment `dist2` writes. -/
abbrev dist2W : List (Ref sig .tc) := [main_v54, main_v55, main_v56, main_v57, main_cst_7, main_v58, main_v59, main_v60, main_cst_8, main_v61, main_v62, main_v63, main_v64, main_v65, main_cst_9, main_v66, main_v67, main_v68, main_v69]
/-- Segment `dist2` changes nothing else. -/
theorem dist2_keep (V : Valuation τ sig (Elt F)) {r : Ref sig .tc} (h : r ∉ dist2W) : after dist2 V (Proc.devRef .tc r) = V (Proc.devRef .tc r) :=
  after_unwritten dist2W rfl h V

/-- What segment `argmin2` writes. -/
abbrev argmin2W : List (Ref sig .tc) := [main_call6_v0, main_call6_cst, main_call6_c, main_call6_v1_0, main_v70]
/-- Segment `argmin2` changes nothing else. -/
theorem argmin2_keep (V : Valuation τ sig (Elt F)) {r : Ref sig .tc} (h : r ∉ argmin2W) : after argmin2 V (Proc.devRef .tc r) = V (Proc.devRef .tc r) :=
  after_unwritten argmin2W rfl h V

/-- What segment `take2` writes. -/
abbrev take2W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v71]
/-- Segment `take2` changes nothing else. -/
theorem take2_keep (V : Valuation τ sig (Elt F)) {r : Ref sig .tc} (h : r ∉ take2W) : after take2 V (Proc.devRef .tc r) = V (Proc.devRef .tc r) :=
  after_unwritten take2W rfl h V

/-- What segment `rest2` writes. -/
abbrev rest2W : List (Ref sig .tc) := [main_v72, main_call8_v0, main_call8_cst, main_call8_v1, main_v73, main_v74, main_cst_10, main_v75, main_v76, main_v77, main_v78, main_v79, main_v80]
/-- Segment `rest2` changes nothing else. -/
theorem rest2_keep (V : Valuation τ sig (Elt F)) {r : Ref sig .tc} (h : r ∉ rest2W) : after rest2 V (Proc.devRef .tc r) = V (Proc.devRef .tc r) :=
  after_unwritten rest2W rfl h V

/-- The operations of level 2, in order. -/
abbrev lev2 : List (HloOp τ sig (Elt F)) := dist2 ++ (argmin2 ++ (take2 ++ rest2))
/-- The buffers after level 2: its four segments one after the other. -/
theorem lev2_after (V : Valuation τ sig (Elt F)) : after lev2 V = after rest2 (after take2 (after argmin2 (after dist2 V))) := by
  rw [after_append, after_append, after_append]
/-- Level 2 leaves alone whatever its segments do not write. -/
theorem lev2_keep (V : Valuation τ sig (Elt F)) {r : Ref sig .tc} (h : r ∉ dist2W ++ (argmin2W ++ (take2W ++ rest2W))) :
    after lev2 V (Proc.devRef .tc r) = V (Proc.devRef .tc r) := by
  simp only [List.mem_append, not_or] at h
  rw [lev2_after, rest2_keep _ h.2.2.2, take2_keep _ h.2.2.1, argmin2_keep _ h.2.1, dist2_keep _ h.1]

/-- The whole line is the three levels one after the other. -/
theorem ops_after (V : Valuation τ sig (Elt F)) : after ops V = after lev2 (after lev1 (after lev0 V)) := by
  rw [lev0_after, lev1_after, lev2_after]; simp only [after_append]

/-- What no level writes is left alone. -/
theorem ops_keep (V : Valuation τ sig (Elt F)) {r : Ref sig .tc} (h0 : r ∉ dist0W ++ (argmin0W ++ (take0W ++ rest0W)))
    (h1 : r ∉ dist1W ++ (argmin1W ++ (take1W ++ rest1W))) (h2 : r ∉ dist2W ++ (argmin2W ++ (take2W ++ rest2W))) :
    after ops V (Proc.devRef .tc r) = V (Proc.devRef .tc r) := by
  rw [ops_after, lev2_keep _ h2, lev1_keep _ h1, lev0_keep _ h0]

/-- Argument 0 ends as it began. -/
theorem arg0_eq (V : Valuation τ sig (Elt F)) : after ops V (main_arg0 : DevRef τ sig) = V (main_arg0 : DevRef τ sig) :=
  ops_keep V (by decide) (by decide) (by decide)
/-- Argument 1 ends as it began. -/
theorem arg1_eq (V : Valuation τ sig (Elt F)) : after ops V (main_arg1 : DevRef τ sig) = V (main_arg1 : DevRef τ sig) :=
  ops_keep V (by decide) (by decide) (by decide)
/-- Argument 2 ends as it began. -/
theorem arg2_eq (V : Valuation τ sig (Elt F)) : after ops V (main_arg2 : DevRef τ sig) = V (main_arg2 : DevRef τ sig) :=
  ops_keep V (by decide) (by decide) (by decide)
/-- Argument 3 ends as it began. -/
theorem arg3_eq (V : Valuation τ sig (Elt F)) : after ops V (main_arg3 : DevRef τ sig) = V (main_arg3 : DevRef τ sig) :=
  ops_keep V (by decide) (by decide) (by decide)
/-- Argument 4 ends as it began. -/
theorem arg4_eq (V : Valuation τ sig (Elt F)) : after ops V (main_arg4 : DevRef τ sig) = V (main_arg4 : DevRef τ sig) :=
  ops_keep V (by decide) (by decide) (by decide)
/-- Argument 5 ends as it began. -/
theorem arg5_eq (V : Valuation τ sig (Elt F)) : after ops V (main_arg5 : DevRef τ sig) = V (main_arg5 : DevRef τ sig) :=
  ops_keep V (by decide) (by decide) (by decide)

/-- The frame of the reference. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h c main_arg0).trans (arg0_eq _), (h c main_arg1).trans (arg1_eq _), (h c main_arg2).trans (arg2_eq _), (h c main_arg3).trans (arg3_eq _), (h c main_arg4).trans (arg4_eq _), (h c main_arg5).trans (arg5_eq _)⟩,
    sem_eq_zero_of_no_sems (by decide) r.2⟩) (run_main m ρ)

end Cert.Proof.Ref

end
-- ==== Proof.Math.lean ====
/-
  The mathematics of the nearest code word, over the reals: squared distances, the first nearest code word, and how the
  two programs' ways of finding it (a minimum of the scores and the first position that attains it; the same in two
  halves; a fold over pairs of value and position) all arrive there.
-/
module

public import Idealize.ShloMosaic.PureOps.Ideal
public import Idealize.ShloMosaic.PureOps.Ideal.Laws
public import Idealize.ShloMosaic.PureOps.Reduce

@[expose] public section

noncomputable section

namespace Cert.Proof.VQ

open Idealize.ShloMosaic

/-- The squared distance of a row and a code word. -/
def sqDist {n : ℕ} (x c : Fin n → ℝ) : ℝ := ∑ d, (x d - c d) ^ 2

/-- `k` is the first position at which `D` is least. -/
def IsBest {K : ℕ} (D : Fin K → ℝ) (k : Fin K) : Prop := ∀ j, D k < D j ∨ (D k = D j ∧ k ≤ j)

/-- There is a first position of the least value. -/
theorem exists_isBest {K : ℕ} [NeZero K] (D : Fin K → ℝ) : ∃ k, IsBest D k := by
  obtain ⟨k, -, h⟩ := Finset.exists_min_image Finset.univ (fun k : Fin K => toLex (D k, k)) ⟨0, Finset.mem_univ _⟩
  exact ⟨k, fun j => Prod.Lex.toLex_le_toLex.1 (h j (Finset.mem_univ _))⟩

/-- It is least. -/
theorem IsBest.le {K : ℕ} {D : Fin K → ℝ} {k : Fin K} (h : IsBest D k) (j : Fin K) : D k ≤ D j := by
  rcases h j with h | h
  exacts [h.le, h.1.le]

/-- And it is the only one. -/
theorem IsBest.unique {K : ℕ} {D : Fin K → ℝ} {k j : Fin K} (h : IsBest D k) (h' : IsBest D j) : k = j := by
  rcases h j with h1 | h1 <;> rcases h' k with h2 | h2
  · exact absurd h1 h2.asymm
  · exact absurd h2.1 h1.ne'
  · exact absurd h1.1 h2.ne'
  · exact le_antisymm h1.2 h2.2

/-- The first nearest code word of a row. -/
def best (C : Fin 2048 → Fin 256 → ℝ) (x : Fin 256 → ℝ) : Fin 2048 :=
  Classical.choose (exists_isBest fun k => sqDist x (C k))

/-- The first nearest code word is preceded by no other. -/
theorem best_isBest (C : Fin 2048 → Fin 256 → ℝ) (x : Fin 256 → ℝ) : IsBest (fun k => sqDist x (C k)) (best C x) :=
  Classical.choose_spec (exists_isBest fun k => sqDist x (C k))

/-! ## Scores -/

/-- A finite sum of reals, read over the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The word of two. -/
theorem two_eq : Ideal.ofBits .f32 0x40000000#32 = ((2 : ℝ) : EReal) := by
  simp [Ideal.ofBits, Ideal.ieee, -EReal.coe_mul]; norm_num
/-- The word of minus two. -/
theorem neg_two_eq : Ideal.ofBits .f32 0xC0000000#32 = ((-2 : ℝ) : EReal) := by
  simp [Ideal.ofBits, Ideal.ieee, -EReal.coe_mul]; norm_num
/-- The word of plus infinity. -/
theorem inf_eq : Ideal.ofBits .f32 0x7F800000#32 = ⊤ := by
  simp [Ideal.ofBits, Ideal.ieee]

/-- The kernel's score (the row's square, its products with the codebook scaled by minus two, the code word's square) is
    the squared distance. -/
theorem score_eq (x c : Fin 256 → EReal) (xr cr : Fin 256 → ℝ) (hx : ∀ d, x d = (xr d : EReal)) (hc : ∀ d, c d = (cr d : EReal)) :
    ∑ d, x d * x d + ∑ d, x d * (Ideal.ofBits .f32 0xC0000000#32 * c d) + ∑ d, c d * c d = ((sqDist xr cr : ℝ) : EReal) := by
  simp only [hx, hc, neg_two_eq, ← EReal.coe_mul, coe_sum, ← EReal.coe_add, sqDist, ← Finset.sum_add_distrib]
  refine congrArg _ (Finset.sum_congr rfl fun d _ => by ring)

/-- The reference's distance, likewise. -/
theorem dist_eq (x c : Fin 256 → EReal) (xr cr : Fin 256 → ℝ) (hx : ∀ d, x d = (xr d : EReal)) (hc : ∀ d, c d = (cr d : EReal)) :
    ∑ d, x d * x d - Ideal.ofBits .f32 0x40000000#32 * ∑ d, x d * c d + ∑ d, c d * c d = ((sqDist xr cr : ℝ) : EReal) := by
  simp only [hx, hc, two_eq, ← EReal.coe_mul, coe_sum, ← EReal.coe_add, ← EReal.coe_sub, sqDist, Finset.mul_sum,
    ← Finset.sum_add_distrib, ← Finset.sum_sub_distrib]
  refine congrArg _ (Finset.sum_congr rfl fun d _ => by ring)

/-! ## The least score and the first position that attains it -/

/-- The minimum of the scores. -/
theorem fold_min_eq {K : ℕ} {D : Fin K → ℝ} {k : Fin K} (h : IsBest D k) :
    Finset.univ.fold min (Ideal.ofBits .f32 0x7F800000#32) (fun j => ((D j : ℝ) : EReal)) = ((D k : ℝ) : EReal) := by
  rw [inf_eq]
  refine le_antisymm ((Finset.fold_min_le _).2 (.inr ⟨k, Finset.mem_univ _, le_rfl⟩)) ?_
  exact (Finset.le_fold_min _).2 ⟨le_top, fun j _ => EReal.coe_le_coe_iff.2 (h.le j)⟩

/-- The signed minimum of words is the minimum of the integers that they are. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- A signed minimum over all positions, at the position that is least. -/
theorem fold_minsi_eq {K : ℕ} (f : Fin K → BitVec 32) (k : Fin K) (h : ∀ j, (f k).toInt ≤ (f j).toInt) :
    Finset.univ.fold IntOp.minsi 2147483647#32 f = f k := by
  apply BitVec.eq_of_toInt_eq
  rw [← Finset.fold_hom (op' := min) (m := BitVec.toInt) toInt_minsi]
  refine le_antisymm ((Finset.fold_min_le _).2 (.inr ⟨k, Finset.mem_univ _, le_rfl⟩)) ?_
  refine (Finset.le_fold_min _).2 ⟨?_, fun j _ => h j⟩
  have := BitVec.toInt_lt (x := f k)
  have e : (2147483647#32 : BitVec 32).toInt = 2147483647 := by decide
  rw [e]; omega

/-- A small number's word, read signed. -/
theorem toInt_ofNat {n : ℕ} (h : n ≤ 2048) : (BitVec.ofNat 32 n).toInt = n := by
  rw [BitVec.toInt_eq_toNat_of_lt (by rw [BitVec.toNat_ofNat, Nat.mod_eq_of_lt (by omega)]; omega),
    BitVec.toNat_ofNat, Nat.mod_eq_of_lt (by omega)]

/-- The kernel's search: among the positions whose score is at most the least one, the first. -/
theorem first_eq {K : ℕ} (hK : K ≤ 2048) {D : Fin K → ℝ} {k : Fin K} (h : IsBest D k) :
    Finset.univ.fold IntOp.minsi 2147483647#32
      (fun j : Fin K => if ((D j : ℝ) : EReal) ≤ ((D k : ℝ) : EReal) then BitVec.ofNat 32 j else BitVec.ofNat 32 K)
      = BitVec.ofNat 32 k := by
  refine (fold_minsi_eq _ k fun j => ?_).trans (if_pos le_rfl)
  rw [if_pos le_rfl, toInt_ofNat (by omega)]
  split
  · rename_i hj
    rw [toInt_ofNat (by omega)]
    rcases h j with h | h
    · exact absurd (EReal.coe_le_coe_iff.1 hj) (not_le.2 h)
    · exact_mod_cast h.2
  · rw [toInt_ofNat (by omega)]
    exact_mod_cast k.2.le

/-- A search in two halves: the second half's winner where it is strictly nearer, else the first half's. -/
theorem best_split {D : Fin 2048 → ℝ} {k₁ k₂ : Fin 1024}
    (h₁ : IsBest (fun j : Fin 1024 => D ⟨j, by omega⟩) k₁) (h₂ : IsBest (fun j : Fin 1024 => D ⟨1024 + j, by omega⟩) k₂) :
    IsBest D (if D ⟨1024 + k₂, by omega⟩ < D ⟨k₁, by omega⟩ then ⟨1024 + k₂, by omega⟩ else ⟨k₁, by omega⟩) := by
  intro j
  by_cases hj : j.val < 1024
  · have e : j = ⟨(⟨j.val, hj⟩ : Fin 1024).val, by omega⟩ := rfl
    have a := h₁ ⟨j.val, hj⟩
    have al := h₁.le ⟨j.val, hj⟩
    split
    · rename_i hlt
      exact .inl (hlt.trans_le al)
    · exact a
  · obtain ⟨i, hi⟩ : ∃ i : Fin 1024, j = ⟨1024 + i, by omega⟩ := ⟨⟨j.val - 1024, by omega⟩, Fin.ext (by simp; omega)⟩
    rw [hi]
    have a := h₂ i
    have al := h₂.le i
    split
    · rcases a with a | a
      · exact .inl a
      · refine .inr ⟨a.1, ?_⟩
        have := a.2
        simp only [Fin.le_def] at this ⊢
        omega
    · rename_i hlt
      rcases ((not_lt.1 hlt).trans al).lt_or_eq with a | a
      · exact .inl a
      · refine .inr ⟨a, ?_⟩
        simp only [Fin.le_def]
        omega

/-! ## One code word picked by a product with a row of zeros and a one -/

/-- The sum over the codebook of each code word times whether it is the one chosen. -/
theorem onehot_eq (c : Fin 2048 → EReal) (b : Fin 2048) :
    ∑ k : Fin 2048, c k * FloatOps.sitofp (F := Ideal) FTy.f32
      (BitVec.setWidth 32 (IntOp.cmpi CmpIPredicate.eq (BitVec.ofNat 32 k) (BitVec.ofNat 32 b))) = c b := by
  rw [Finset.sum_eq_single b]
  · rw [show IntOp.cmpi CmpIPredicate.eq (BitVec.ofNat 32 b) (BitVec.ofNat 32 b) = 1#1 by simp [IntOp.cmpi]]
    refine (congrArg (c b * ·) (show FloatOps.sitofp (F := Ideal) FTy.f32 (BitVec.setWidth 32 1#1) = (1 : EReal) from ?_)).trans (mul_one _)
    show (((BitVec.setWidth 32 1#1).toInt : ℝ) : EReal) = 1
    rw [show (BitVec.setWidth 32 1#1).toInt = 1 by decide]; simp
  · intro k _ hk
    have hne : ¬ BitVec.ofNat 32 k.val = BitVec.ofNat 32 b.val := fun e => hk (Fin.ext (by
      have := congrArg BitVec.toInt e
      rw [toInt_ofNat (by omega), toInt_ofNat (by omega)] at this
      exact_mod_cast this))
    rw [show IntOp.cmpi CmpIPredicate.eq (BitVec.ofNat 32 k) (BitVec.ofNat 32 b) = 0#1 from
      congrArg BitVec.ofBool (beq_eq_false_iff_ne.2 hne)]
    refine (congrArg (c k * ·) (show FloatOps.sitofp (F := Ideal) FTy.f32 (BitVec.setWidth 32 0#1) = (0 : EReal) from ?_)).trans (mul_zero _)
    show (((BitVec.setWidth 32 0#1).toInt : ℝ) : EReal) = 0
    rw [show (BitVec.setWidth 32 0#1).toInt = 0 by decide]; simp
  · exact fun h => absurd (Finset.mem_univ _) h

/-! ## Sums of distances -/

/-- The difference to the code word, squared and summed over a row, is the squared distance. -/
theorem row_eq (x c : Fin 256 → ℝ) :
    ∑ d, (((c d : ℝ) : EReal) - ((x d : ℝ) : EReal)) * (((c d : ℝ) : EReal) - ((x d : ℝ) : EReal)) = ((sqDist x c : ℝ) : EReal) := by
  simp only [← EReal.coe_sub, ← EReal.coe_mul, coe_sum, sqDist]
  refine congrArg _ (Finset.sum_congr rfl fun d _ => by ring)

/-- What is added and taken away again. -/
theorem back_eq (x c : ℝ) : ((x : ℝ) : EReal) + (((c : ℝ) : EReal) - ((x : ℝ) : EReal)) = ((c : ℝ) : EReal) := by
  rw [← EReal.coe_sub, ← EReal.coe_add]; exact congrArg _ (by ring)

end Cert.Proof.VQ

end
-- ==== Proof.Finite.lean ====
/-
  The precondition: where an array's entries pass the comparison of their absolute values with infinity, they are real.
-/
module

public import proofs.«01_k».proof.Defs
public import Idealize.ShloMosaic.Lib.Pointwise
public import proofs.«01_k».proof.Proof.Math

@[expose] public section

noncomputable section

namespace Cert.Proof.Finite

open Idealize.ShloMosaic Idealize.SL.Sem
open Cert.KernelIdeal (nD τ sig main_arg0 main_arg1 main_arg2 main_arg3 main_arg4 main_arg5)

/-- The side conditions of the precondition's operations. -/
theorem facts : Cert.Pre_finite.Facts := by
  constructor <;> decide

/-- An extended real whose absolute value is below infinity is a real number. -/
theorem real_of_below (x : EReal) (h : Ideal.cmp .olt (max x (-x)) (Ideal.ofBits .f32 0x7F800000#32) = 1#1) : x = ((x.toReal : ℝ) : EReal) := by
  rw [VQ.inf_eq] at h
  have hlt : max x (-x) < ⊤ := by
    by_contra hn
    unfold Ideal.cmp at h
    dsimp only at h
    rw [decide_eq_false hn] at h
    exact absurd h (by decide)
  refine (EReal.coe_toReal ?_ ?_).symm <;> rintro rfl <;> simp at hlt

/-- An array that passes the comparison holds real numbers. -/
theorem real_of_pass {s : Shape} (hb : (⟨0, ![]⟩ : Shape).BroadcastsInDim s (![] : Fin 0 → Fin s.rank)) (x : FVec Ideal s .f32)
    (h : cmpf .olt (Host.absf x) (broadcastInDim s ![] hb (constant ⟨0, ![]⟩ .f32 0x7F800000#32)) = fun _ => 1#1) (i : s.Idx) :
    (x i : EReal) = (((x i : EReal).toReal : ℝ) : EReal) :=
  real_of_below (x i) (congrFun h i)

variable (m : (ℓ : Loc nD τ sig) → Buf (Elt Ideal) ℓ)

/-- Under the precondition every argument holds real numbers. -/
theorem reals (h : Cert.Pre_KernelIdeal_finite (hPre_finite := facts) m) (c : Dev nD) :
    (∀ i, (m ((c.tc : Thread nD τ).loc main_arg0) i : EReal) = (((m ((c.tc : Thread nD τ).loc main_arg0) i : EReal).toReal : ℝ) : EReal))
    ∧ (∀ i, (m ((c.tc : Thread nD τ).loc main_arg1) i : EReal) = (((m ((c.tc : Thread nD τ).loc main_arg1) i : EReal).toReal : ℝ) : EReal))
    ∧ (∀ i, (m ((c.tc : Thread nD τ).loc main_arg2) i : EReal) = (((m ((c.tc : Thread nD τ).loc main_arg2) i : EReal).toReal : ℝ) : EReal))
    ∧ (∀ i, (m ((c.tc : Thread nD τ).loc main_arg3) i : EReal) = (((m ((c.tc : Thread nD τ).loc main_arg3) i : EReal).toReal : ℝ) : EReal))
    ∧ (∀ i, (m ((c.tc : Thread nD τ).loc main_arg4) i : EReal) = (((m ((c.tc : Thread nD τ).loc main_arg4) i : EReal).toReal : ℝ) : EReal))
    ∧ (∀ i, (m ((c.tc : Thread nD τ).loc main_arg5) i : EReal) = (((m ((c.tc : Thread nD τ).loc main_arg5) i : EReal).toReal : ℝ) : EReal)) := by
  obtain ⟨h0, h1, h2, h3, h4, h5⟩ := h c
  exact ⟨real_of_pass _ _ h0, real_of_pass _ _ h1, real_of_pass _ _ h2, real_of_pass _ _ h3, real_of_pass _ _ h4, real_of_pass _ _ h5⟩

end Cert.Proof.Finite

end
-- ==== Proof.Spec.lean ====
/-
  The quantiser's results, of real latents and a real codebook: the tokens, the quantised output and the loss.
-/
module

public import Idealize.ShloMosaic.Lib.Pointwise
public import proofs.«01_k».proof.Proof.Math

@[expose] public section

noncomputable section

namespace Cert.Proof.VQ

open Idealize.ShloMosaic

/-- Arrays of no axis agree when they agree at their one index. -/
theorem ext0 {α : Type} {x y : (⟨0, ![]⟩ : Shape).Idx → α} (h : x ix0 = y ix0) : x = y := by
  funext i
  rw [show i = ix0 from funext fun a => Fin.elim0 a]
  exact h

/-- Arrays of two axes agree when they agree at every index. -/
theorem ext2 {α : Type} {n m : ℕ} {x y : (⟨2, ![n, m]⟩ : Shape).Idx → α} (h : ∀ i j, x (ix2 i j) = y (ix2 i j)) : x = y := by
  funext i
  rw [show i = ix2 (i 0) (i 1) from funext fun a => by match a with | ⟨0, _⟩ => rfl | ⟨1, _⟩ => rfl]
  exact h _ _

/-- Arrays of three axes agree when they agree at every index. -/
theorem ext3 {α : Type} {n m l : ℕ} {x y : (⟨3, ![n, m, l]⟩ : Shape).Idx → α} (h : ∀ i j k, x (ix3 i j k) = y (ix3 i j k)) : x = y := by
  funext i
  rw [show i = ix3 (i 0) (i 1) (i 2) from funext fun a => by match a with | ⟨0, _⟩ => rfl | ⟨1, _⟩ => rfl | ⟨2, _⟩ => rfl]
  exact h _ _ _

section
variable {T : ℕ} (h : Fin 2 → Fin T → Fin 256 → ℝ) (e : Fin 2048 → Fin 256 → ℝ)

/-- The tokens: the words of the first nearest code words. -/
def tokens : IVec ⟨2, ![2, T]⟩ 32 := fun i => BitVec.ofNat 32 (best e (h (i 0) (i 1))).val

/-- The quantised output: those code words. -/
def quantised : Vec Ideal ⟨3, ![2, 256, T]⟩ .f32 := fun i => ((e (best e (h (i 0) (i 2))) (i 1) : ℝ) : EReal)

/-- The squared distances to the code words, summed. -/
def total : EReal := ∑ b : Fin 2, ∑ p : Fin T, ((sqDist (h b p) (e (best e (h b p))) : ℝ) : EReal)

/-- The loss: the square of the root of the sum, over the number of entries. -/
def loss (n : BitVec 32) : Vec Ideal ⟨0, ![]⟩ .f32 :=
  fun _ => Ideal.div (Ideal.sqrt (total h e) * Ideal.sqrt (total h e)) (Ideal.ofBits .f32 n)

end

/-- A sum over rows, block of rows by block. -/
theorem sum_blocks {a b N : ℕ} (hN : a * b = N) (G : Fin N → EReal) :
    ∑ r, G r = ∑ i : Fin a, ∑ j : Fin b, G ⟨i.val * b + j.val, by
      have hi : i.val + 1 ≤ a := i.isLt
      have hj := j.isLt
      have := Nat.mul_le_mul_right b hi
      rw [Nat.add_mul] at this
      omega⟩ := by
  subst hN
  rw [← Equiv.sum_comp finProdFinEquiv G, Fintype.sum_prod_type]
  refine Finset.sum_congr rfl fun i _ => Finset.sum_congr rfl fun j _ => congrArg G (Fin.ext ?_)
  rw [finProdFinEquiv_apply_val, Nat.mul_comm, Nat.add_comm]

/-- The sum of level 0, tile by tile. -/
theorem total_halves (h : Fin 2 → Fin 4096 → Fin 256 → ℝ) (e : Fin 2048 → Fin 256 → ℝ) :
    total h e = ∑ j : Fin 4, ∑ r : Fin 2048, ((sqDist (h ⟨j.val / 2, by omega⟩ ⟨j.val % 2 * 2048 + r.val, by omega⟩)
      (e (best e (h ⟨j.val / 2, by omega⟩ ⟨j.val % 2 * 2048 + r.val, by omega⟩))) : ℝ) : EReal) := by
  rw [sum_blocks (show 2 * 2 = 4 from rfl)]
  refine Finset.sum_congr rfl fun b _ => ?_
  rw [sum_blocks (show 2 * 2048 = 4096 from rfl)]
  refine Finset.sum_congr rfl fun j _ => Finset.sum_congr rfl fun r _ => ?_
  have hb : (⟨(b.val * 2 + j.val) / 2, by omega⟩ : Fin 2) = b := Fin.ext (by show (b.val * 2 + j.val) / 2 = b.val; omega)
  have hj : (⟨(b.val * 2 + j.val) % 2 * 2048 + r.val, by omega⟩ : Fin 4096) = ⟨j.val * 2048 + r.val, by omega⟩ :=
    Fin.ext (by show (b.val * 2 + j.val) % 2 * 2048 + r.val = j.val * 2048 + r.val; omega)
  dsimp only
  rw [hb, hj]

end Cert.Proof.VQ

end
-- ==== Proof.KPay.lean ====
/-
  What the kernel's body computes at one grid point, read one element at a time: the scores of a tile's rows against the
  codebook, the tokens, the quantised rows and the sum of the least scores, each as the mathematics of Math.lean says
  them once the inputs are real numbers. Level 0 searches its codebook in two halves, levels 1 and 2 in one go.
-/
module

public import proofs.«01_k».proof.Proof.KDat
public import proofs.«01_k».proof.Proof.Math
public import Idealize.ShloMosaic.Lib.Pointwise
public import Idealize.ShloMosaic.PureOps.Ideal

@[expose] public section

set_option maxRecDepth 16384

noncomputable section

namespace Cert.Proof.KI

open Cert.KernelIdeal Cert.KernelIdeal.Gen
open Idealize.ShloMosaic Cert.Proof.VQ

/-- What a row of products with a zero-one matrix is made of: each code word times whether it is the one at `t`. -/
abbrev picked (c : Fin 2048 → EReal) (t : BitVec 32) : EReal :=
  ∑ k : Fin 2048, c k * FloatOps.sitofp (F := Ideal) FTy.f32 (BitVec.setWidth 32 (IntOp.cmpi CmpIPredicate.eq (BitVec.ofNat 32 k) t))

/-- The first position of `K` whose score is at most `m`. -/
abbrev firstBelow {K : ℕ} (w : Fin K → EReal) (m : EReal) : BitVec 32 :=
  Finset.univ.fold IntOp.minsi 2147483647#32 fun k : Fin K => if w k ≤ m then BitVec.ofNat 32 k else BitVec.ofNat 32 K

/-- The least of `K` scores. -/
abbrev least {K : ℕ} (w : Fin K → EReal) : EReal := Finset.univ.fold min (Ideal.ofBits .f32 0x7F800000#32) w

/-! ## The squares of the code words, and the codebook scaled by minus two -/

section
variable (c : Vec Ideal S2048x256 .f32) (k : Fin 2048) (d : Fin 256)

/-- Level 0's code norms. -/
theorem norm0 : k0_pay9 c (ix2 0 k) = (∑ d, c (ix2 k d) * c (ix2 k d) : EReal) := by pointwise [k0_pay9]
/-- Level 1's code norms. -/
theorem norm1 : k0_pay11 c (ix2 0 k) = (∑ d, c (ix2 k d) * c (ix2 k d) : EReal) := by pointwise [k0_pay11]
/-- Level 2's code norms. -/
theorem norm2 : k0_pay13 c (ix2 0 k) = (∑ d, c (ix2 k d) * c (ix2 k d) : EReal) := by pointwise [k0_pay13]
/-- Level 0's scaled codebook. -/
theorem scaled0 : k0_pay10 c (ix2 k d) = (Ideal.ofBits .f32 0xC0000000#32 * c (ix2 k d) : EReal) := by pointwise [k0_pay10]
/-- Level 1's scaled codebook. -/
theorem scaled1 : k0_pay12 c (ix2 k d) = (Ideal.ofBits .f32 0xC0000000#32 * c (ix2 k d) : EReal) := by pointwise [k0_pay12]
/-- Level 2's scaled codebook. -/
theorem scaled2 : k0_pay1 c (Scalar.ofBits .f32 0xC0000000#32) (ix2 k d) = (Ideal.ofBits .f32 0xC0000000#32 * c (ix2 k d) : EReal) := by
  pointwise [k0_pay1]

end

/-! ## The stored blocks -/

/-- Level 0's token block holds the tokens. -/
theorem tokBlock0 (v : IVec S2048 32) (r : Fin 2048) : k0_pay2 v (ix3 0 0 r) = v (ix1 r) := by pointwise [k0_pay2]
/-- Level 1's quantised block holds the picked code words. -/
theorem quantBlock1 (v : FVec Ideal S256x1024 .f32) (d : Fin 256) (r : Fin 1024) : k0_pay5 v (ix3 0 d r) = v (ix2 d r) := by
  pointwise [k0_pay5]
/-- Level 2's quantised block holds the picked code words. -/
theorem quantBlock2 (v : FVec Ideal S256x256 .f32) (d : Fin 256) (r : Fin 256) : k0_pay7 v (ix3 0 d r) = v (ix2 d r) := by
  pointwise [k0_pay7]
/-- Level 1's loss block: in every lane the sum of the least scores. -/
theorem lossBlock1 (v : FVec Ideal S1024 .f32) (l : Fin 128) : k0_pay6 v (ix3 0 0 l) = (∑ r : Fin 1024, v (ix1 r) : EReal) := by
  pointwise [k0_pay6]
/-- Level 2's loss block: in every lane the sum of the least scores. -/
theorem lossBlock2 (v : FVec Ideal S256 .f32) (l : Fin 128) : k0_pay8 v (ix3 0 0 l) = (∑ r : Fin 256, v (ix1 r) : EReal) := by
  pointwise [k0_pay8]

/-! ## Level 0 -/

section
variable (x : Vec Ideal S1x256x2048 .f32) (n : Vec Ideal S1x2048 .f32) (s : Vec Ideal S2048x256 .bf16) (r : Fin 2048)

/-- Level 0's scores: latent norm, scaled product and code norm. -/
theorem score0 (k : Fin 2048) : k0_pay14 x n s (ix2 r k)
    = (∑ d, x (ix3 0 d r) * x (ix3 0 d r) + ∑ d, x (ix3 0 d r) * s (ix2 k d) + n (ix2 0 k) : EReal) := by
  pointwise [k0_pay14]
/-- The scores of the first half of the codebook. -/
theorem lower0 (k : Fin 1024) : k0_pay15 x n s (ix2 r k) = k0_pay14 x n s (ix2 r ⟨k, by omega⟩) := by
  pointwise [k0_pay15]
/-- The scores of the second half of the codebook. -/
theorem upper0 (k : Fin 1024) : k0_pay16 x n s (ix2 r k) = k0_pay14 x n s (ix2 r ⟨1024 + k, by omega⟩) := by
  pointwise [k0_pay16]
/-- The least score of the first half. -/
theorem leastLower0 : k0_pay17 x n s (ix2 r 0) = least fun k : Fin 1024 => (k0_pay15 x n s (ix2 r k) : EReal) := by
  pointwise [k0_pay17]
/-- The least score of the second half. -/
theorem leastUpper0 : k0_pay18 x n s (ix2 r 0) = least fun k : Fin 1024 => (k0_pay16 x n s (ix2 r k) : EReal) := by
  pointwise [k0_pay18]
/-- Whether the second half's least score is below the first half's. -/
theorem takesUpper0 : k0_pay19 x n s (ix1 r) = Ideal.cmp .olt (k0_pay18 x n s (ix2 r 0)) (k0_pay17 x n s (ix2 r 0)) := by
  pointwise [k0_pay19]
/-- Level 0's token: the first of the least scores in the selected half. -/
theorem tok0 : k0_pay20 x n s (ix1 r) = Scalar.select (k0_pay19 x n s (ix1 r))
    ((firstBelow fun k : Fin 1024 => (k0_pay16 x n s (ix2 r k) : EReal)) (k0_pay18 x n s (ix2 r 0)) + 1024#32)
    ((firstBelow fun k : Fin 1024 => (k0_pay15 x n s (ix2 r k) : EReal)) (k0_pay17 x n s (ix2 r 0)) + 0#32) := by
  pointwise [k0_pay20]
  rfl
/-- The second half's least scores as a vector. -/
theorem leastVec0 : k0_pay21 x n s (ix1 r) = k0_pay18 x n s (ix2 r 0) := by pointwise [k0_pay21]
/-- Level 0's quantised rows: the code word that the token picks. -/
theorem quant0 (t : IVec S2048 32) (c : Vec Ideal S2048x256 .f32) (d : Fin 256) :
    k0_pay3 t c (ix3 0 d r) = picked (fun k => c (ix2 k d)) (t (ix1 r)) := by
  pointwise [k0_pay3]
/-- Level 0's loss block: in every lane the sum of the selected scores. -/
theorem lossBlock0 (v : FVec Ideal S2048x1 .f32) (b : IVec S2048 1) (u : FVec Ideal S2048 .f32) (l : Fin 128) :
    k0_pay4 v b u (ix3 0 0 l) = (∑ r : Fin 2048, Scalar.select (b (ix1 r)) (u (ix1 r)) (v (ix2 r 0)) : EReal) := by
  pointwise [k0_pay4]

end

/-! ## Level 1 -/

section
variable (x : Vec Ideal S1x256x1024 .f32) (n : Vec Ideal S1x2048 .f32) (s : Vec Ideal S2048x256 .bf16) (r : Fin 1024)

/-- Level 1's scores: latent norm, scaled product and code norm. -/
theorem score1 (k : Fin 2048) : k0_pay22 x n s (ix2 r k)
    = (∑ d, x (ix3 0 d r) * x (ix3 0 d r) + ∑ d, x (ix3 0 d r) * s (ix2 k d) + n (ix2 0 k) : EReal) := by
  pointwise [k0_pay22]
/-- Level 1's least score. -/
theorem least1 : k0_pay23 x n s (ix2 r 0) = least fun k : Fin 2048 => (k0_pay22 x n s (ix2 r k) : EReal) := by
  pointwise [k0_pay23]
/-- Level 1's token: the first of the least scores. -/
theorem tok1 : k0_pay24 x n s (ix1 r)
    = (firstBelow fun k : Fin 2048 => (k0_pay22 x n s (ix2 r k) : EReal)) (k0_pay23 x n s (ix2 r 0)) + 0#32 := by
  pointwise [k0_pay24]
  rfl
/-- Level 1's least scores as a vector. -/
theorem leastVec1 : k0_pay25 x n s (ix1 r) = k0_pay23 x n s (ix2 r 0) := by pointwise [k0_pay25]
/-- Level 1's token block holds the tokens. -/
theorem tokBlock1 : k0_pay26 x n s (ix3 0 0 r) = k0_pay24 x n s (ix1 r) := by pointwise [k0_pay26]
/-- Level 1's quantised rows: the code word that the token picks. -/
theorem quant1 (c : Vec Ideal S2048x256 .f32) (d : Fin 256) :
    k0_pay27 x n s c (ix2 d r) = picked (fun k => c (ix2 k d)) (k0_pay24 x n s (ix1 r)) := by
  pointwise [k0_pay27]

end

/-! ## Level 2 -/

section
variable (x : Vec Ideal S1x256x256 .f32) (n : Vec Ideal S1x2048 .f32) (s : Vec Ideal S2048x256 .bf16) (r : Fin 256)

/-- Level 2's scores: latent norm, scaled product and code norm. -/
theorem score2 (k : Fin 2048) : k0_pay28 x n s (ix2 r k)
    = (∑ d, x (ix3 0 d r) * x (ix3 0 d r) + ∑ d, x (ix3 0 d r) * s (ix2 k d) + n (ix2 0 k) : EReal) := by
  pointwise [k0_pay28]
/-- Level 2's least score. -/
theorem least2 : k0_pay29 x n s (ix2 r 0) = least fun k : Fin 2048 => (k0_pay28 x n s (ix2 r k) : EReal) := by
  pointwise [k0_pay29]
/-- Level 2's token: the first of the least scores. -/
theorem tok2 : k0_pay30 x n s (ix1 r)
    = (firstBelow fun k : Fin 2048 => (k0_pay28 x n s (ix2 r k) : EReal)) (k0_pay29 x n s (ix2 r 0)) + 0#32 := by
  pointwise [k0_pay30]
  rfl
/-- Level 2's least scores as a vector. -/
theorem leastVec2 : k0_pay31 x n s (ix1 r) = k0_pay29 x n s (ix2 r 0) := by pointwise [k0_pay31]
/-- Level 2's token block holds the tokens. -/
theorem tokBlock2 : k0_pay32 x n s (ix3 0 0 r) = k0_pay30 x n s (ix1 r) := by pointwise [k0_pay32]
/-- Level 2's quantised rows: the code word that the token picks. -/
theorem quant2 (c : Vec Ideal S2048x256 .f32) (d : Fin 256) :
    k0_pay33 x n s c (ix2 d r) = picked (fun k => c (ix2 k d)) (k0_pay30 x n s (ix1 r)) := by
  pointwise [k0_pay33]

end

end Cert.Proof.KI

end
-- ==== Proof.KLevel.lean ====
/-
  What the kernel writes at a grid point when its inputs are real numbers: for each row of a tile the word of the first
  nearest code word, that code word itself, and in every lane of the partial loss the sum of the rows' distances to it.
-/
module

public import proofs.«01_k».proof.Proof.KPay

@[expose] public section

set_option maxRecDepth 16384

noncomputable section

namespace Cert.Proof.KI

open Cert.KernelIdeal Cert.KernelIdeal.Gen
open Idealize.ShloMosaic Cert.Proof.VQ

/-- A codebook whose entries are the real numbers `cr`. -/
abbrev RealCodes (c : Vec Ideal S2048x256 .f32) (cr : Fin 2048 → Fin 256 → ℝ) : Prop := ∀ k d, (c (ix2 k d) : EReal) = ((cr k d : ℝ) : EReal)

/-- The search in one go, over real scores. -/
theorem search (D : Fin 2048 → ℝ) {k : Fin 2048} (h : IsBest D k) (w : Fin 2048 → EReal) (hw : ∀ j, w j = ((D j : ℝ) : EReal)) (m : EReal)
    (hm : m = least w) : m = ((D k : ℝ) : EReal) ∧ firstBelow w m + 0#32 = BitVec.ofNat 32 k := by
  obtain rfl : w = fun j => ((D j : ℝ) : EReal) := funext hw
  have e : m = ((D k : ℝ) : EReal) := hm.trans (fold_min_eq h)
  refine ⟨e, ?_⟩
  rw [e, BitVec.add_zero]
  exact first_eq le_rfl h

/-- The search in two halves, over real scores: which half is taken, the token and the least score. -/
theorem search_halves (D : Fin 2048 → ℝ) {k : Fin 2048} (h : IsBest D k) (w₁ w₂ : Fin 1024 → EReal)
    (hw₁ : ∀ j : Fin 1024, w₁ j = ((D ⟨j, by omega⟩ : ℝ) : EReal)) (hw₂ : ∀ j : Fin 1024, w₂ j = ((D ⟨1024 + j, by omega⟩ : ℝ) : EReal)) (m₁ m₂ : EReal)
    (hm₁ : m₁ = least w₁) (hm₂ : m₂ = least w₂) :
    Scalar.select (Ideal.cmp .olt m₂ m₁) (firstBelow w₂ m₂ + 1024#32) (firstBelow w₁ m₁ + 0#32) = BitVec.ofNat 32 k
      ∧ Scalar.select (Ideal.cmp .olt m₂ m₁) m₂ m₁ = ((D k : ℝ) : EReal) := by
  obtain rfl : w₁ = fun j : Fin 1024 => ((D ⟨j, by omega⟩ : ℝ) : EReal) := funext hw₁
  obtain rfl : w₂ = fun j : Fin 1024 => ((D ⟨1024 + j, by omega⟩ : ℝ) : EReal) := funext hw₂
  obtain ⟨k₁, h₁⟩ := exists_isBest fun j : Fin 1024 => D ⟨j, by omega⟩
  obtain ⟨k₂, h₂⟩ := exists_isBest fun j : Fin 1024 => D ⟨1024 + j, by omega⟩
  have e₁ : m₁ = ((D ⟨k₁, by omega⟩ : ℝ) : EReal) := hm₁.trans (fold_min_eq h₁)
  have e₂ : m₂ = ((D ⟨1024 + k₂, by omega⟩ : ℝ) : EReal) := hm₂.trans (fold_min_eq h₂)
  have t₁ : firstBelow (fun j : Fin 1024 => ((D ⟨j, by omega⟩ : ℝ) : EReal)) m₁ = BitVec.ofNat 32 k₁ := by
    rw [e₁]; exact first_eq (by omega) h₁
  have t₂ : firstBelow (fun j : Fin 1024 => ((D ⟨1024 + j, by omega⟩ : ℝ) : EReal)) m₂ = BitVec.ofNat 32 k₂ := by
    rw [e₂]; exact first_eq (by omega) h₂
  have hk := h.unique (best_split h₁ h₂)
  rw [t₁, t₂, e₁, e₂, hk]
  by_cases hlt : D ⟨1024 + k₂, by omega⟩ < D ⟨k₁, by omega⟩
  · rw [if_pos hlt, show Ideal.cmp .olt ((D ⟨1024 + k₂, by omega⟩ : ℝ) : EReal) ((D ⟨k₁, by omega⟩ : ℝ) : EReal) = 1#1 by
      simp [Ideal.cmp, hlt]]
    refine ⟨?_, rfl⟩
    show BitVec.ofNat 32 k₂ + BitVec.ofNat 32 1024 = BitVec.ofNat 32 (1024 + k₂)
    rw [← BitVec.ofNat_add, Nat.add_comm]
  · rw [if_neg hlt, show Ideal.cmp .olt ((D ⟨1024 + k₂, by omega⟩ : ℝ) : EReal) ((D ⟨k₁, by omega⟩ : ℝ) : EReal) = 0#1 by
      simp [Ideal.cmp, hlt]]
    exact ⟨BitVec.add_zero _, rfl⟩

variable (cb : Vec Ideal S2048x256 .f32) (cr : Fin 2048 → Fin 256 → ℝ) (hc : RealCodes cb cr)
include hc

/-- The word of the first nearest code word picks that code word. -/
theorem picked_best (x : Fin 256 → ℝ) (d : Fin 256) : picked (fun k => cb (ix2 k d)) (BitVec.ofNat 32 (best cr x)) = ((cr (best cr x) d : ℝ) : EReal) :=
  (onehot_eq _ _).trans (hc _ d)

section
variable (x : Vec Ideal S1x256x2048 .f32) (xr : Fin 2048 → Fin 256 → ℝ) (hx : ∀ r d, (x (ix3 0 d r) : EReal) = ((xr r d : ℝ) : EReal))
  (r : Fin 2048)
include hx

/-- A level-0 score of real blocks is the squared distance. -/
theorem level0_score (k : Fin 2048) : k0_pay14 x (k0_pay9 cb) (k0_pay10 cb) (ix2 r k) = ((sqDist (xr r) (cr k) : ℝ) : EReal) := by
  rw [score0, norm0]
  simp only [scaled0]
  exact score_eq _ _ _ _ (hx r) (hc k)

/-- The level-0 search of real blocks: the token is the first nearest code word's, the selected score its squared distance. -/
theorem level0_search :
    k0_pay20 x (k0_pay9 cb) (k0_pay10 cb) (ix1 r) = BitVec.ofNat 32 (best cr (xr r))
    ∧ Scalar.select (k0_pay19 x (k0_pay9 cb) (k0_pay10 cb) (ix1 r)) (k0_pay21 x (k0_pay9 cb) (k0_pay10 cb) (ix1 r))
        (k0_pay17 x (k0_pay9 cb) (k0_pay10 cb) (ix2 r 0)) = ((sqDist (xr r) (cr (best cr (xr r))) : ℝ) : EReal) := by
  rw [tok0, takesUpper0, leastVec0]
  exact search_halves (fun k => sqDist (xr r) (cr k)) (best_isBest cr (xr r)) _ _
    (fun j => (lower0 ..).trans (level0_score cb cr hc x xr hx r _)) (fun j => (upper0 ..).trans (level0_score cb cr hc x xr hx r _))
    _ _ (leastLower0 ..) (leastUpper0 ..)

/-- Level 0's tokens. -/
theorem tokV0_eq : tokV0 x cb (ix3 0 0 r) = BitVec.ofNat 32 (best cr (xr r)) :=
  (tokBlock0 ..).trans (level0_search cb cr hc x xr hx r).1

/-- Level 0's quantised rows. -/
theorem quantV0_eq (d : Fin 256) : quantV0 x cb (ix3 0 d r) = ((cr (best cr (xr r)) d : ℝ) : EReal) := by
  refine (quant0 ..).trans ?_
  rw [(level0_search cb cr hc x xr hx r).1]
  exact picked_best cb cr hc _ d

omit r in
/-- Level 0's partial loss. -/
theorem lossV0_eq (l : Fin 128) : lossV0 x cb (ix3 0 0 l) = (∑ r, ((sqDist (xr r) (cr (best cr (xr r))) : ℝ) : EReal) : EReal) :=
  (lossBlock0 ..).trans (Finset.sum_congr rfl fun r _ => (level0_search cb cr hc x xr hx r).2)

end

section
variable (x : Vec Ideal S1x256x1024 .f32) (xr : Fin 1024 → Fin 256 → ℝ) (hx : ∀ r d, (x (ix3 0 d r) : EReal) = ((xr r d : ℝ) : EReal))
  (r : Fin 1024)
include hx

/-- The level-1 search of real blocks: the least score is the squared distance to the first nearest code word, the token that word's. -/
theorem level1_search : k0_pay23 x (k0_pay11 cb) (k0_pay12 cb) (ix2 r 0) = ((sqDist (xr r) (cr (best cr (xr r))) : ℝ) : EReal)
    ∧ k0_pay24 x (k0_pay11 cb) (k0_pay12 cb) (ix1 r) = BitVec.ofNat 32 (best cr (xr r)) := by
  rw [tok1]
  refine search (fun k => sqDist (xr r) (cr k)) (best_isBest cr (xr r)) _ (fun k => ?_) _ (least1 ..)
  rw [score1, norm1]
  simp only [scaled1]
  exact score_eq _ _ _ _ (hx r) (hc k)

/-- Level 1's tokens. -/
theorem tokV1_eq : tokV1 x cb (ix3 0 0 r) = BitVec.ofNat 32 (best cr (xr r)) :=
  (tokBlock1 ..).trans (level1_search cb cr hc x xr hx r).2

/-- Level 1's quantised rows. -/
theorem quantV1_eq (d : Fin 256) : quantV1 x cb (ix3 0 d r) = ((cr (best cr (xr r)) d : ℝ) : EReal) := by
  refine (quantBlock1 ..).trans ((quant1 ..).trans ?_)
  rw [(level1_search cb cr hc x xr hx r).2]
  exact picked_best cb cr hc _ d

omit r in
/-- Level 1's partial loss. -/
theorem lossV1_eq (l : Fin 128) : lossV1 x cb (ix3 0 0 l) = (∑ r, ((sqDist (xr r) (cr (best cr (xr r))) : ℝ) : EReal) : EReal) :=
  (lossBlock1 ..).trans (Finset.sum_congr rfl fun r _ => (leastVec1 ..).trans (level1_search cb cr hc x xr hx r).1)

end

section
variable (x : Vec Ideal S1x256x256 .f32) (xr : Fin 256 → Fin 256 → ℝ) (hx : ∀ r d, (x (ix3 0 d r) : EReal) = ((xr r d : ℝ) : EReal))
  (r : Fin 256)
include hx

/-- The level-2 search of real blocks: the least score is the squared distance to the first nearest code word, the token that word's. -/
theorem level2_search :
    k0_pay29 x (k0_pay13 cb) (k0_pay1 cb (Scalar.ofBits .f32 0xC0000000#32)) (ix2 r 0) = ((sqDist (xr r) (cr (best cr (xr r))) : ℝ) : EReal)
    ∧ k0_pay30 x (k0_pay13 cb) (k0_pay1 cb (Scalar.ofBits .f32 0xC0000000#32)) (ix1 r) = BitVec.ofNat 32 (best cr (xr r)) := by
  rw [tok2]
  refine search (fun k => sqDist (xr r) (cr k)) (best_isBest cr (xr r)) _ (fun k => ?_) _ (least2 ..)
  rw [score2, norm2]
  simp only [scaled2]
  exact score_eq _ _ _ _ (hx r) (hc k)

/-- Level 2's tokens. -/
theorem tokV2_eq : tokV2 x cb (ix3 0 0 r) = BitVec.ofNat 32 (best cr (xr r)) :=
  (tokBlock2 ..).trans (level2_search cb cr hc x xr hx r).2

/-- Level 2's quantised rows. -/
theorem quantV2_eq (d : Fin 256) : quantV2 x cb (ix3 0 d r) = ((cr (best cr (xr r)) d : ℝ) : EReal) := by
  refine (quantBlock2 ..).trans ((quant2 ..).trans ?_)
  rw [(level2_search cb cr hc x xr hx r).2]
  exact picked_best cb cr hc _ d

omit r in
/-- Level 2's partial loss. -/
theorem lossV2_eq (l : Fin 128) : lossV2 x cb (ix3 0 0 l) = (∑ r, ((sqDist (xr r) (cr (best cr (xr r))) : ℝ) : EReal) : EReal) :=
  (lossBlock2 ..).trans (Finset.sum_congr rfl fun r _ => (leastVec2 ..).trans (level2_search cb cr hc x xr hx r).1)

end

end Cert.Proof.KI

end
-- ==== Proof.KArr0.lean ====
/-
  The kernel's arrays at level 0 when the arguments are real numbers: which element of an argument a tile reads, and
  what the token, quantised and partial-loss arrays hold after the last write-back.
-/
module

public import proofs.«01_k».proof.Proof.KDat
public import proofs.«01_k».proof.Proof.KLevel
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Cert.Proof.VQ
open Idealize.ShloMosaic.Pipeline (Dat)

/-- Every index of a rank-3 shape is its three coordinates. -/
theorem eq_ix3 {a b c : ℕ} (y : (⟨3, ![a, b, c]⟩ : Shape).Idx) : ∃ i j k, y = ix3 i j k :=
  ⟨y 0, y 1, y 2, funext fun e => by fin_cases e <;> rfl⟩

/-- Where the blocks of the latents and of level 0's results lie at a point of the grid. -/
theorem index_tab : ∀ t : Fin grid0.N,
    (win0_0.index t 0 = t.val / 4 ∧ win0_0.index t 1 = 0 ∧ win0_0.index t 2 = min (t.val % 4) 1)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_6.index t 0 = t.val / 4 * 2 + min (t.val % 4) 1 ∧ win0_6.index t 1 = 0 ∧ win0_6.index t 2 = 0)
    ∧ (win0_9.index t 0 = t.val / 4 ∧ win0_9.index t 1 = 0 ∧ win0_9.index t 2 = min (t.val % 4) 1)
    ∧ (win0_12.index t 0 = t.val / 4 * 2 + min (t.val % 4) 1 ∧ win0_12.index t 1 = 0 ∧ win0_12.index t 2 = 0) := by
  decide +kernel

/-- Of two points with the same batch and half, the row of the array that one's block element is, seen from the other. -/
theorem same_row {u t b p r : ℕ} (f1 : u / 4 = t / 4) (f2 : min (u % 4) 1 = min (t % 4) 1) (hb : b < 2) (hr : r < 2048) (hp : p < 4096)
    (k0 : (t / 4 * 2 + min (t % 4) 1) * 1 + 1 * 0 = b * 2 + p / 2048) (k2 : 0 * 2048 + 1 * r = p % 2048) :
    b = u / 4 ∧ min (u % 4) 1 * 2048 + r = p := by
  rw [f1, f2]; omega

/-- The row of its batch that row `r` of point `t`'s tile is. -/
def half (t : Fin cfg0.N) (r : Fin 2048) : Fin 4096 := ⟨min (t.val % 4) 1 * 2048 + r, by omega⟩

/-- The point that writes back half `j` of batch `b` at level 0. -/
def point0 (b j : Fin 2) : Fin cfg0.N := ⟨b.val * 4 + j.val * 3, by have := b.isLt; have := j.isLt; have : cfg0.N = 8 := N_0; omega⟩

/-- The batch row and the tile of the point that writes a level-0 block back, and where it lies in its row of points. -/
theorem point0_facts : ∀ b j : Fin 2, (b.val * 4 + j.val * 3) / 4 = b.val ∧ min ((b.val * 4 + j.val * 3) % 4) 1 = j.val
    ∧ ((b.val * 4 + j.val * 3) % 4 = 3 ∨ (b.val * 4 + j.val * 3) % 4 = 0) := by decide

/-- That point's batch row. -/
theorem point0_batch (b j : Fin 2) : (point0 b j).val / 4 = b.val := (point0_facts b j).1
/-- That point's tile. -/
theorem point0_half (b j : Fin 2) : min ((point0 b j).val % 4) 1 = j.val := (point0_facts b j).2.1

/-- That point writes the level-0 results back. -/
theorem point0_flush (w : Fin cfg0.W) (hw : 6 ≤ w.val ∧ w.val % 3 = 0) (b j : Fin 2) : (cfg0.win w).flush (point0 b j) = true := by
  rw [flush_tab]
  have h := (point0_facts b j).2.2
  unfold flushB point0
  rcases h with h | h <;> simp [h, hw.1, hw.2]

/-! What a window writes back, read at an index: the contents its buffer is left at. -/

section
variable {c : Dev nD} (dat : Dat τ (Elt Ideal) Unit ℕ (UR sig nD τ) ℕ cfg0 c) (t : Fin cfg0.N)

/-- What is written back of level 0's tokens is what its buffer holds after the body. -/
theorem written6 (x : Vec Ideal S1x1x2048 .i32) (hx : dat.after 6 t = x) (y : S1x1x2048.Idx) :
    _root_.cast (congrArg (Elt Ideal) ((cfg0.win 6).blk t).view.elt_eq.symm) (dat.flushed 6 t y) = x y := by
  subst hx; rfl

/-- What is written back of level 0's quantised output is what its buffer holds after the body. -/
theorem written9 (x : Vec Ideal S1x256x2048 .f32) (hx : dat.after 9 t = x) (y : S1x256x2048.Idx) :
    _root_.cast (congrArg (Elt Ideal) ((cfg0.win 9).blk t).view.elt_eq.symm) (dat.flushed 9 t y) = x y := by
  subst hx; rfl

/-- What is written back of level 0's partial losses is what its buffer holds after the body. -/
theorem written12 (x : Vec Ideal S1x1x128 .f32) (hx : dat.after 12 t = x) (y : S1x1x128.Idx) :
    _root_.cast (congrArg (Elt Ideal) ((cfg0.win 12).blk t).view.elt_eq.symm) (dat.flushed 12 t y) = x y := by
  subst hx; rfl

end

variable (m : (ℓ : Loc nD τ sig) → Buf (Elt Ideal) ℓ) (c : Dev nD)

/-- What the level-0 latent's block holds. -/
theorem X0_apply (t : Fin cfg0.N) (d : Fin 256) (r : Fin 2048) (b : Fin 2) (p : Fin 4096) (hb : b.val = t.val / 4) (hp : p.val = min (t.val % 4) 1 * 2048 + r) :
    X0 m c t (ix3 0 d r) = m ((c.tc : Thread nD τ).loc main_arg0) (ix3 b d p) := by
  unfold X0 iblk
  rw [View.read_apply]
  show V m c main_arg0 _ = m (c.tc.loc main_arg0) _
  unfold V
  congr 1
  obtain ⟨h0, h1, h2⟩ := (index_tab t).1
  funext a
  apply Fin.ext
  match a with
  | ⟨0, _⟩ => show win0_0.index t 0 * 1 + 1 * 0 = b.val; rw [h0]; omega
  | ⟨1, _⟩ => show win0_0.index t 1 * 256 + 1 * d.val = d.val; rw [h1]; omega
  | ⟨2, _⟩ => show win0_0.index t 2 * 2048 + 1 * r.val = p.val; rw [h2]; omega

/-- Level 0's codebook block is the codebook. -/
theorem C0_apply (k : Fin 2048) (d : Fin 256) : C0 m c (ix2 k d) = m ((c.tc : Thread nD τ).loc main_arg5) (ix2 k d) := by
  unfold C0 iblk
  rw [View.read_apply]
  show V m c main_arg5 _ = m (c.tc.loc main_arg5) _
  unfold V
  congr 1
  funext a
  apply Fin.ext
  match a with
  | ⟨0, _⟩ => show win0_3.index t0_0 0 * 2048 + 1 * k.val = k.val; rw [show win0_3.index t0_0 0 = 0 by decide +kernel]; omega
  | ⟨1, _⟩ => show win0_3.index t0_0 1 * 256 + 1 * d.val = d.val; rw [show win0_3.index t0_0 1 = 0 by decide +kernel]; omega

variable (h : Fin 2 → Fin 4096 → Fin 256 → ℝ) (e : Fin 2048 → Fin 256 → ℝ)
  (hh : ∀ b p d, (m ((c.tc : Thread nD τ).loc main_arg0) (ix3 b d p) : EReal) = ((h b p d : ℝ) : EReal))
  (he : ∀ k d, (m ((c.tc : Thread nD τ).loc main_arg5) (ix2 k d) : EReal) = ((e k d : ℝ) : EReal))
include he

/-- Level 0's codebook block holds the real codebook. -/
theorem codes0 : RealCodes (C0 m c) e := fun k d => (C0_apply m c k d).trans (he k d)

include hh

/-- A level-0 tile's rows are rows of the latent. -/
theorem rows0 (t : Fin cfg0.N) (b : Fin 2) (q : Fin 2048 → Fin 4096) (hb : b.val = t.val / 4) (hq : ∀ r : Fin 2048, (q r).val = min (t.val % 4) 1 * 2048 + r)
    (r : Fin 2048) (d : Fin 256) : (X0 m c t (ix3 0 d r) : EReal) = ((h b (q r) d : ℝ) : EReal) :=
  (X0_apply m c t d r b (q r) hb (hq r)).trans (hh ..)

/-- The point a level-0 buffer was last computed at, at a point that writes it back. -/
theorem flush0 (w : Fin cfg0.W) (hw : w.val % 3 = 0) (t : Fin cfg0.N) (hf : (cfg0.win w).flush t = true) :
    (cur0 t).val / 4 = t.val / 4 ∧ min ((cur0 t).val % 4) 1 = min (t.val % 4) 1 := by
  rw [flush_tab] at hf
  simp [flushB, hw] at hf
  unfold cur0
  dsimp only
  split <;> omega

/-- Level 0's token array. -/
theorem tokens0 (b : Fin 2) (p : Fin 4096) (i : S4x1x2048.Idx) (h0 : (i 0).val = b.val * 2 + p.val / 2048) (h2 : (i 2).val = p.val % 2048) :
    (dats m 0 c).arrAt 6 cfg0.N i = BitVec.ofNat 32 (best e (h b p)) := by
  refine (dats m 0 c).arrAt_forall_of_cover 6
    (fun i v => ∀ (b : Fin 2) (p : Fin 4096), (i 0).val = b.val * 2 + p.val / 2048 → (i 2).val = p.val % 2048 → v = BitVec.ofNat 32 (best e (h b p)))
    (fun t hf y b p h0 h2 => ?_) (fun i => ?_) i b p h0 h2
  · obtain ⟨y0, y1, r, rfl⟩ := eq_ix3 y
    obtain rfl := Subsingleton.elim y0 0
    obtain rfl := Subsingleton.elim y1 0
    refine (written6 (dats m 0 c) t _ (after0_6 m c t) (ix3 0 0 r)).trans ?_
    obtain ⟨f1, f2⟩ := flush0 m c h e hh he 6 rfl t hf
    obtain ⟨g0, g1, g2⟩ := (index_tab t).2.2.2.1
    have k0 : win0_6.index t 0 * 1 + 1 * 0 = b.val * 2 + p.val / 2048 := h0
    have k2 : win0_6.index t 2 * 2048 + 1 * r.val = p.val % 2048 := h2
    rw [g0] at k0
    rw [g2] at k2
    obtain ⟨q0, q2⟩ := same_row f1 f2 b.isLt r.isLt p.isLt k0 k2
    refine (tokV0_eq (C0 m c) e (codes0 m c e he) (X0 m c (cur0 t)) (fun r => h b (half (cur0 t) r))
      (rows0 m c h e hh he (cur0 t) b _ q0 fun _ => rfl) r).trans ?_
    rw [show half (cur0 t) r = p from Fin.ext q2]
  · have i0 : (i 0).val < 4 := (i 0).isLt
    have i1 : (i 1).val < 1 := (i 1).isLt
    have i2 : (i 2).val < 2048 := (i 2).isLt
    obtain ⟨b, j, e0⟩ : ∃ b j : Fin 2, (i 0).val = b.val * 2 + j.val := ⟨⟨(i 0).val / 2, by omega⟩, ⟨(i 0).val % 2, by omega⟩, by dsimp only; omega⟩
    refine ⟨point0 b j, point0_flush 6 ⟨by decide, by decide⟩ b j, ?_⟩
    obtain ⟨g0, g1, g2⟩ := (index_tab (point0 b j)).2.2.2.1
    rw [point0_batch] at g0
    rw [point0_half] at g0
    show i ∈ ((View.whole main_v0_0).slice (win0_6.rect (point0 b j))).set
    rw [View.set_slice_whole, Rect.mem_set_unit]
    intro a
    match a with
    | ⟨0, _⟩ => show win0_6.index (point0 b j) 0 * 1 ≤ (i 0).val ∧ (i 0).val < win0_6.index (point0 b j) 0 * 1 + 1; rw [g0]; omega
    | ⟨1, _⟩ => show win0_6.index (point0 b j) 1 * 1 ≤ (i 1).val ∧ (i 1).val < win0_6.index (point0 b j) 1 * 1 + 1; rw [g1]; omega
    | ⟨2, _⟩ => show win0_6.index (point0 b j) 2 * 2048 ≤ (i 2).val ∧ (i 2).val < win0_6.index (point0 b j) 2 * 2048 + 2048; rw [g2]; omega

/-- Level 0's quantised array. -/
theorem quants0 (b : Fin 2) (d : Fin 256) (p : Fin 4096) :
    (dats m 0 c).arrAt 9 cfg0.N (ix3 b d p) = ((e (best e (h b p)) d : ℝ) : EReal) := by
  refine (dats m 0 c).arrAt_forall_of_cover 9
    (fun i v => ∀ (b : Fin 2) (d : Fin 256) (p : Fin 4096), (i 0).val = b.val → (i 1).val = d.val → (i 2).val = p.val → v = ((e (best e (h b p)) d : ℝ) : EReal))
    (fun t hf y b d p h0 h1 h2 => ?_) (fun i => ?_) (ix3 b d p) b d p rfl rfl rfl
  · obtain ⟨y0, y1, r, rfl⟩ := eq_ix3 y
    obtain rfl := Subsingleton.elim y0 0
    refine (written9 (dats m 0 c) t _ (after0_9 m c t) (ix3 0 y1 r)).trans ?_
    obtain ⟨f1, f2⟩ := flush0 m c h e hh he 9 rfl t hf
    obtain ⟨g0, g1, g2⟩ := (index_tab t).2.2.2.2.1
    have k0 : win0_9.index t 0 * 1 + 1 * 0 = b.val := h0
    have k1 : win0_9.index t 1 * 256 + 1 * y1.val = d.val := h1
    have k2 : win0_9.index t 2 * 2048 + 1 * r.val = p.val := h2
    rw [g0] at k0
    rw [g1] at k1
    rw [g2] at k2
    obtain rfl : y1 = d := Fin.ext (by omega)
    have q0 : b.val = (cur0 t).val / 4 := by rw [f1]; omega
    have q2 : min ((cur0 t).val % 4) 1 * 2048 + r.val = p.val := by rw [f2]; omega
    refine (quantV0_eq (C0 m c) e (codes0 m c e he) (X0 m c (cur0 t)) (fun r => h b (half (cur0 t) r))
      (rows0 m c h e hh he (cur0 t) b _ q0 fun _ => rfl) r y1).trans ?_
    rw [show half (cur0 t) r = p from Fin.ext q2]
  · have i0 : (i 0).val < 2 := (i 0).isLt
    have i1 : (i 1).val < 256 := (i 1).isLt
    have i2 : (i 2).val < 4096 := (i 2).isLt
    obtain ⟨b, j, e0⟩ : ∃ b j : Fin 2, (i 0).val = b.val ∧ (i 2).val / 2048 = j.val := ⟨⟨(i 0).val, by omega⟩, ⟨(i 2).val / 2048, by omega⟩, by dsimp only; omega⟩
    refine ⟨point0 b j, point0_flush 9 ⟨by decide, by decide⟩ b j, ?_⟩
    obtain ⟨g0, g1, g2⟩ := (index_tab (point0 b j)).2.2.2.2.1
    rw [point0_batch] at g0
    rw [point0_half] at g2
    show i ∈ ((View.whole main_v0_3).slice (win0_9.rect (point0 b j))).set
    rw [View.set_slice_whole, Rect.mem_set_unit]
    intro a
    match a with
    | ⟨0, _⟩ => show win0_9.index (point0 b j) 0 * 1 ≤ (i 0).val ∧ (i 0).val < win0_9.index (point0 b j) 0 * 1 + 1; rw [g0]; omega
    | ⟨1, _⟩ => show win0_9.index (point0 b j) 1 * 256 ≤ (i 1).val ∧ (i 1).val < win0_9.index (point0 b j) 1 * 256 + 256; rw [g1]; omega
    | ⟨2, _⟩ => show win0_9.index (point0 b j) 2 * 2048 ≤ (i 2).val ∧ (i 2).val < win0_9.index (point0 b j) 2 * 2048 + 2048; rw [g2]; omega

/-- Level 0's partial losses: of each half of a batch's rows. -/
theorem losses0 (b j : Fin 2) (i : S4x1x128.Idx) (h0 : (i 0).val = b.val * 2 + j.val) :
    (dats m 0 c).arrAt 12 cfg0.N i
      = (∑ r : Fin 2048, ((sqDist (h b ⟨j.val * 2048 + r.val, by omega⟩) (e (best e (h b ⟨j.val * 2048 + r.val, by omega⟩))) : ℝ) : EReal) : EReal) := by
  refine (dats m 0 c).arrAt_forall_of_cover 12
    (fun i v => ∀ b j : Fin 2, (i 0).val = b.val * 2 + j.val → v
      = (∑ r : Fin 2048, ((sqDist (h b ⟨j.val * 2048 + r.val, by omega⟩) (e (best e (h b ⟨j.val * 2048 + r.val, by omega⟩))) : ℝ) : EReal) : EReal))
    (fun t hf y b j h0 => ?_) (fun i => ?_) i b j h0
  · obtain ⟨y0, y1, l, rfl⟩ := eq_ix3 y
    obtain rfl := Subsingleton.elim y0 0
    obtain rfl := Subsingleton.elim y1 0
    refine (written12 (dats m 0 c) t _ (after0_12 m c t) (ix3 0 0 l)).trans ?_
    obtain ⟨f1, f2⟩ := flush0 m c h e hh he 12 rfl t hf
    obtain ⟨g0, g1, g2⟩ := (index_tab t).2.2.2.2.2
    have k0 : win0_12.index t 0 * 1 + 1 * 0 = b.val * 2 + j.val := h0
    rw [g0] at k0
    exact lossV0_eq (C0 m c) e (codes0 m c e he) (X0 m c (cur0 t)) (fun r => h b ⟨j.val * 2048 + r.val, by omega⟩)
      (rows0 m c h e hh he (cur0 t) b _ (by rw [f1]; omega) fun r => by show j.val * 2048 + r.val = _; rw [f2]; omega) l
  · have i0 : (i 0).val < 4 := (i 0).isLt
    have i1 : (i 1).val < 1 := (i 1).isLt
    have i2 : (i 2).val < 128 := (i 2).isLt
    obtain ⟨b, j, e0⟩ : ∃ b j : Fin 2, (i 0).val = b.val * 2 + j.val := ⟨⟨(i 0).val / 2, by omega⟩, ⟨(i 0).val % 2, by omega⟩, by dsimp only; omega⟩
    refine ⟨point0 b j, point0_flush 12 ⟨by decide, by decide⟩ b j, ?_⟩
    obtain ⟨g0, g1, g2⟩ := (index_tab (point0 b j)).2.2.2.2.2
    rw [point0_batch] at g0
    rw [point0_half] at g0
    show i ∈ ((View.whole main_v0_6).slice (win0_12.rect (point0 b j))).set
    rw [View.set_slice_whole, Rect.mem_set_unit]
    intro a
    match a with
    | ⟨0, _⟩ => show win0_12.index (point0 b j) 0 * 1 ≤ (i 0).val ∧ (i 0).val < win0_12.index (point0 b j) 0 * 1 + 1; rw [g0]; omega
    | ⟨1, _⟩ => show win0_12.index (point0 b j) 1 * 1 ≤ (i 1).val ∧ (i 1).val < win0_12.index (point0 b j) 1 * 1 + 1; rw [g1]; omega
    | ⟨2, _⟩ => show win0_12.index (point0 b j) 2 * 128 ≤ (i 2).val ∧ (i 2).val < win0_12.index (point0 b j) 2 * 128 + 128; rw [g2]; omega

end Cert.Proof.KI

end
-- ==== Proof.KArr1.lean ====
/-
  The kernel's arrays at levels 1 and 2 when the arguments are real numbers: each of these levels has one tile per
  batch, so a batch's block of a result array is what that tile gives.
-/
module

public import proofs.«01_k».proof.Proof.KArr0

@[expose] public section

set_option maxRecDepth 16384

noncomputable section

namespace Cert.Proof.KI

open Cert.KernelIdeal Cert.KernelIdeal.Gen
open Idealize.ShloMosaic Idealize.ShloMosaic.TcCoe Cert.Proof.VQ
open Idealize.ShloMosaic.Pipeline (Dat)

/-- The point that writes back batch `b`'s blocks. -/
def point (b : Fin 2) : Fin cfg0.N := ⟨b.val * 4 + 3, by have := b.isLt; have : cfg0.N = 8 := N_0; omega⟩

/-- The batch row of the last point of a row of points. -/
theorem point_batch (b : Fin 2) : (point b).val / 4 = b.val := by show (b.val * 4 + 3) / 4 = b.val; omega

/-- The last point of a row of points writes every result back. -/
theorem point_flush (w : Fin cfg0.W) (hw : 6 ≤ w.val) (b : Fin 2) : (cfg0.win w).flush (point b) = true := by
  rw [flush_tab]
  have h : (b.val * 4 + 3) % 4 = 3 := by omega
  unfold flushB point
  simp [h, hw]

/-- The point that computes level 1 is of the same batch row. -/
theorem cur1_batch (t : Fin cfg0.N) : (cur1 t).val / 4 = t.val / 4 := by unfold cur1; dsimp only; omega
/-- The point that computes level 2 is of the same batch row. -/
theorem cur2_batch (t : Fin cfg0.N) : (cur2 t).val / 4 = t.val / 4 := by unfold cur2; dsimp only; omega

/-! ## Where each window's blocks lie, and that those written back cover its array -/

/-- The block of level 1's tokens at a point is its batch row's. -/
theorem index_tab7 : ∀ t : Fin grid0.N, win0_7.index t 0 = t.val / 4 ∧ win0_7.index t 1 = 0 ∧ win0_7.index t 2 = 0 := by decide +kernel

/-- Every index of level 1's tokens lies in a block that is written back. -/
theorem cover7 (i : (⟨3, ![2, 1, 1024]⟩ : Shape).Idx) : ∃ t : Fin cfg0.N, (cfg0.win 7).flush t = true ∧ i ∈ ((cfg0.win 7).blk t).view.set := by
  obtain ⟨b, hb⟩ : ∃ b : Fin 2, (i 0).val = b.val := ⟨i 0, rfl⟩
  obtain ⟨g0, g1, g2⟩ := index_tab7 (point b)
  rw [point_batch] at g0
  refine ⟨point b, point_flush 7 (by decide) _, ?_⟩
  show i ∈ ((View.whole main_v0_1).slice (win0_7.rect (point b))).set
  rw [View.set_slice_whole, Rect.mem_set_unit]
  have i1 : (i 1).val < 1 := (i 1).isLt
  have i2 : (i 2).val < 1024 := (i 2).isLt
  intro a
  match a with
  | ⟨0, _⟩ => show win0_7.index (point b) 0 * 1 ≤ (i 0).val ∧ (i 0).val < win0_7.index (point b) 0 * 1 + 1; rw [g0]; omega
  | ⟨1, _⟩ => show win0_7.index (point b) 1 * 1 ≤ (i 1).val ∧ (i 1).val < win0_7.index (point b) 1 * 1 + 1; rw [g1]; omega
  | ⟨2, _⟩ => show win0_7.index (point b) 2 * 1024 ≤ (i 2).val ∧ (i 2).val < win0_7.index (point b) 2 * 1024 + 1024; rw [g2]; omega

/-- The block of level 1's quantised output at a point is its batch row's. -/
theorem index_tab10 : ∀ t : Fin grid0.N, win0_10.index t 0 = t.val / 4 ∧ win0_10.index t 1 = 0 ∧ win0_10.index t 2 = 0 := by decide +kernel

/-- Every index of level 1's quantised output lies in a block that is written back. -/
theorem cover10 (i : (⟨3, ![2, 256, 1024]⟩ : Shape).Idx) : ∃ t : Fin cfg0.N, (cfg0.win 10).flush t = true ∧ i ∈ ((cfg0.win 10).blk t).view.set := by
  obtain ⟨b, hb⟩ : ∃ b : Fin 2, (i 0).val = b.val := ⟨i 0, rfl⟩
  obtain ⟨g0, g1, g2⟩ := index_tab10 (point b)
  rw [point_batch] at g0
  refine ⟨point b, point_flush 10 (by decide) _, ?_⟩
  show i ∈ ((View.whole main_v0_4).slice (win0_10.rect (point b))).set
  rw [View.set_slice_whole, Rect.mem_set_unit]
  have i1 : (i 1).val < 256 := (i 1).isLt
  have i2 : (i 2).val < 1024 := (i 2).isLt
  intro a
  match a with
  | ⟨0, _⟩ => show win0_10.index (point b) 0 * 1 ≤ (i 0).val ∧ (i 0).val < win0_10.index (point b) 0 * 1 + 1; rw [g0]; omega
  | ⟨1, _⟩ => show win0_10.index (point b) 1 * 256 ≤ (i 1).val ∧ (i 1).val < win0_10.index (point b) 1 * 256 + 256; rw [g1]; omega
  | ⟨2, _⟩ => show win0_10.index (point b) 2 * 1024 ≤ (i 2).val ∧ (i 2).val < win0_10.index (point b) 2 * 1024 + 1024; rw [g2]; omega

/-- The block of level 1's partial losses at a point is its batch row's. -/
theorem index_tab13 : ∀ t : Fin grid0.N, win0_13.index t 0 = t.val / 4 ∧ win0_13.index t 1 = 0 ∧ win0_13.index t 2 = 0 := by decide +kernel

/-- Every index of level 1's partial losses lies in a block that is written back. -/
theorem cover13 (i : (⟨3, ![2, 1, 128]⟩ : Shape).Idx) : ∃ t : Fin cfg0.N, (cfg0.win 13).flush t = true ∧ i ∈ ((cfg0.win 13).blk t).view.set := by
  obtain ⟨b, hb⟩ : ∃ b : Fin 2, (i 0).val = b.val := ⟨i 0, rfl⟩
  obtain ⟨g0, g1, g2⟩ := index_tab13 (point b)
  rw [point_batch] at g0
  refine ⟨point b, point_flush 13 (by decide) _, ?_⟩
  show i ∈ ((View.whole main_v0_7).slice (win0_13.rect (point b))).set
  rw [View.set_slice_whole, Rect.mem_set_unit]
  have i1 : (i 1).val < 1 := (i 1).isLt
  have i2 : (i 2).val < 128 := (i 2).isLt
  intro a
  match a with
  | ⟨0, _⟩ => show win0_13.index (point b) 0 * 1 ≤ (i 0).val ∧ (i 0).val < win0_13.index (point b) 0 * 1 + 1; rw [g0]; omega
  | ⟨1, _⟩ => show win0_13.index (point b) 1 * 1 ≤ (i 1).val ∧ (i 1).val < win0_13.index (point b) 1 * 1 + 1; rw [g1]; omega
  | ⟨2, _⟩ => show win0_13.index (point b) 2 * 128 ≤ (i 2).val ∧ (i 2).val < win0_13.index (point b) 2 * 128 + 128; rw [g2]; omega

/-- The block of level 2's tokens at a point is its batch row's. -/
theorem index_tab8 : ∀ t : Fin grid0.N, win0_8.index t 0 = t.val / 4 ∧ win0_8.index t 1 = 0 ∧ win0_8.index t 2 = 0 := by decide +kernel

/-- Every index of level 2's tokens lies in a block that is written back. -/
theorem cover8 (i : (⟨3, ![2, 1, 256]⟩ : Shape).Idx) : ∃ t : Fin cfg0.N, (cfg0.win 8).flush t = true ∧ i ∈ ((cfg0.win 8).blk t).view.set := by
  obtain ⟨b, hb⟩ : ∃ b : Fin 2, (i 0).val = b.val := ⟨i 0, rfl⟩
  obtain ⟨g0, g1, g2⟩ := index_tab8 (point b)
  rw [point_batch] at g0
  refine ⟨point b, point_flush 8 (by decide) _, ?_⟩
  show i ∈ ((View.whole main_v0_2).slice (win0_8.rect (point b))).set
  rw [View.set_slice_whole, Rect.mem_set_unit]
  have i1 : (i 1).val < 1 := (i 1).isLt
  have i2 : (i 2).val < 256 := (i 2).isLt
  intro a
  match a with
  | ⟨0, _⟩ => show win0_8.index (point b) 0 * 1 ≤ (i 0).val ∧ (i 0).val < win0_8.index (point b) 0 * 1 + 1; rw [g0]; omega
  | ⟨1, _⟩ => show win0_8.index (point b) 1 * 1 ≤ (i 1).val ∧ (i 1).val < win0_8.index (point b) 1 * 1 + 1; rw [g1]; omega
  | ⟨2, _⟩ => show win0_8.index (point b) 2 * 256 ≤ (i 2).val ∧ (i 2).val < win0_8.index (point b) 2 * 256 + 256; rw [g2]; omega

/-- The block of level 2's quantised output at a point is its batch row's. -/
theorem index_tab11 : ∀ t : Fin grid0.N, win0_11.index t 0 = t.val / 4 ∧ win0_11.index t 1 = 0 ∧ win0_11.index t 2 = 0 := by decide +kernel

/-- Every index of level 2's quantised output lies in a block that is written back. -/
theorem cover11 (i : (⟨3, ![2, 256, 256]⟩ : Shape).Idx) : ∃ t : Fin cfg0.N, (cfg0.win 11).flush t = true ∧ i ∈ ((cfg0.win 11).blk t).view.set := by
  obtain ⟨b, hb⟩ : ∃ b : Fin 2, (i 0).val = b.val := ⟨i 0, rfl⟩
  obtain ⟨g0, g1, g2⟩ := index_tab11 (point b)
  rw [point_batch] at g0
  refine ⟨point b, point_flush 11 (by decide) _, ?_⟩
  show i ∈ ((View.whole main_v0_5).slice (win0_11.rect (point b))).set
  rw [View.set_slice_whole, Rect.mem_set_unit]
  have i1 : (i 1).val < 256 := (i 1).isLt
  have i2 : (i 2).val < 256 := (i 2).isLt
  intro a
  match a with
  | ⟨0, _⟩ => show win0_11.index (point b) 0 * 1 ≤ (i 0).val ∧ (i 0).val < win0_11.index (point b) 0 * 1 + 1; rw [g0]; omega
  | ⟨1, _⟩ => show win0_11.index (point b) 1 * 256 ≤ (i 1).val ∧ (i 1).val < win0_11.index (point b) 1 * 256 + 256; rw [g1]; omega
  | ⟨2, _⟩ => show win0_11.index (point b) 2 * 256 ≤ (i 2).val ∧ (i 2).val < win0_11.index (point b) 2 * 256 + 256; rw [g2]; omega

/-- The block of level 2's partial losses at a point is its batch row's. -/
theorem index_tab14 : ∀ t : Fin grid0.N, win0_14.index t 0 = t.val / 4 ∧ win0_14.index t 1 = 0 ∧ win0_14.index t 2 = 0 := by decide +kernel

/-- Every index of level 2's partial losses lies in a block that is written back. -/
theorem cover14 (i : (⟨3, ![2, 1, 128]⟩ : Shape).Idx) : ∃ t : Fin cfg0.N, (cfg0.win 14).flush t = true ∧ i ∈ ((cfg0.win 14).blk t).view.set := by
  obtain ⟨b, hb⟩ : ∃ b : Fin 2, (i 0).val = b.val := ⟨i 0, rfl⟩
  obtain ⟨g0, g1, g2⟩ := index_tab14 (point b)
  rw [point_batch] at g0
  refine ⟨point b, point_flush 14 (by decide) _, ?_⟩
  show i ∈ ((View.whole main_v0_8).slice (win0_14.rect (point b))).set
  rw [View.set_slice_whole, Rect.mem_set_unit]
  have i1 : (i 1).val < 1 := (i 1).isLt
  have i2 : (i 2).val < 128 := (i 2).isLt
  intro a
  match a with
  | ⟨0, _⟩ => show win0_14.index (point b) 0 * 1 ≤ (i 0).val ∧ (i 0).val < win0_14.index (point b) 0 * 1 + 1; rw [g0]; omega
  | ⟨1, _⟩ => show win0_14.index (point b) 1 * 1 ≤ (i 1).val ∧ (i 1).val < win0_14.index (point b) 1 * 1 + 1; rw [g1]; omega
  | ⟨2, _⟩ => show win0_14.index (point b) 2 * 128 ≤ (i 2).val ∧ (i 2).val < win0_14.index (point b) 2 * 128 + 128; rw [g2]; omega

section
variable {c : Dev nD} (dat : Dat τ (Elt Ideal) Unit ℕ (UR sig nD τ) ℕ cfg0 c) (t : Fin cfg0.N)

/-- What is written back of level 1's tokens is what its buffer holds after the body. -/
theorem written7 (x : Vec Ideal S1x1x1024 .i32) (hx : dat.after 7 t = x) (y : S1x1x1024.Idx) :
    _root_.cast (congrArg (Elt Ideal) ((cfg0.win 7).blk t).view.elt_eq.symm) (dat.flushed 7 t y) = x y := by
  subst hx; rfl

/-- What is written back of level 2's tokens is what its buffer holds after the body. -/
theorem written8 (x : Vec Ideal S1x1x256 .i32) (hx : dat.after 8 t = x) (y : S1x1x256.Idx) :
    _root_.cast (congrArg (Elt Ideal) ((cfg0.win 8).blk t).view.elt_eq.symm) (dat.flushed 8 t y) = x y := by
  subst hx; rfl

/-- What is written back of level 1's quantised output is what its buffer holds after the body. -/
theorem written10 (x : Vec Ideal S1x256x1024 .f32) (hx : dat.after 10 t = x) (y : S1x256x1024.Idx) :
    _root_.cast (congrArg (Elt Ideal) ((cfg0.win 10).blk t).view.elt_eq.symm) (dat.flushed 10 t y) = x y := by
  subst hx; rfl

/-- What is written back of level 2's quantised output is what its buffer holds after the body. -/
theorem written11 (x : Vec Ideal S1x256x256 .f32) (hx : dat.after 11 t = x) (y : S1x256x256.Idx) :
    _root_.cast (congrArg (Elt Ideal) ((cfg0.win 11).blk t).view.elt_eq.symm) (dat.flushed 11 t y) = x y := by
  subst hx; rfl

/-- What is written back of level 1's partial losses is what its buffer holds after the body. -/
theorem written13 (x : Vec Ideal S1x1x128 .f32) (hx : dat.after 13 t = x) (y : S1x1x128.Idx) :
    _root_.cast (congrArg (Elt Ideal) ((cfg0.win 13).blk t).view.elt_eq.symm) (dat.flushed 13 t y) = x y := by
  subst hx; rfl

/-- What is written back of level 2's partial losses is what its buffer holds after the body. -/
theorem written14 (x : Vec Ideal S1x1x128 .f32) (hx : dat.after 14 t = x) (y : S1x1x128.Idx) :
    _root_.cast (congrArg (Elt Ideal) ((cfg0.win 14).blk t).view.elt_eq.symm) (dat.flushed 14 t y) = x y := by
  subst hx; rfl

end

variable (m : (ℓ : Loc nD τ sig) → Buf (Elt Ideal) ℓ) (c : Dev nD)

/-! ## Level 1 -/

section
variable (h : Fin 2 → Fin 1024 → Fin 256 → ℝ) (e : Fin 2048 → Fin 256 → ℝ)
  (hh : ∀ b p d, (m ((c.tc : Thread nD τ).loc main_arg1) (ix3 b d p) : EReal) = ((h b p d : ℝ) : EReal))
  (he : ∀ k d, (m ((c.tc : Thread nD τ).loc main_arg4) (ix2 k d) : EReal) = ((e k d : ℝ) : EReal))

/-- Level 1's codebook block is the codebook. -/
theorem C1_apply (k : Fin 2048) (d : Fin 256) : C1 m c (ix2 k d) = m ((c.tc : Thread nD τ).loc main_arg4) (ix2 k d) := by
  unfold C1 iblk
  rw [View.read_apply]
  show V m c main_arg4 _ = m (c.tc.loc main_arg4) _
  unfold V
  congr 1
  funext a
  apply Fin.ext
  match a with
  | ⟨0, _⟩ => show win0_4.index t0_0 0 * 2048 + 1 * k.val = k.val; rw [show win0_4.index t0_0 0 = 0 by decide +kernel]; omega
  | ⟨1, _⟩ => show win0_4.index t0_0 1 * 256 + 1 * d.val = d.val; rw [show win0_4.index t0_0 1 = 0 by decide +kernel]; omega

include he in
/-- Level 1's codebook block holds the real codebook. -/
theorem codes1 : RealCodes (C1 m c) e := fun k d => (C1_apply m c k d).trans (he k d)

include hh in
/-- The level-1 tile of a batch is the batch's part of the latent. -/
theorem rows1 (t : Fin cfg0.N) (b : Fin 2) (hb : b.val = t.val / 4) (r : Fin 1024) (d : Fin 256) : (X1 m c t (ix3 0 d r) : EReal) = ((h b r d : ℝ) : EReal) := by
  refine Eq.trans ?_ (hh b r d)
  unfold X1 iblk
  rw [View.read_apply]
  show V m c main_arg1 _ = m (c.tc.loc main_arg1) _
  unfold V
  congr 1
  obtain ⟨h0, h1, h2⟩ := (index_tab t).2.1
  funext a
  apply Fin.ext
  match a with
  | ⟨0, _⟩ => show win0_1.index t 0 * 1 + 1 * 0 = b.val; rw [h0]; omega
  | ⟨1, _⟩ => show win0_1.index t 1 * 256 + 1 * d.val = d.val; rw [h1]; omega
  | ⟨2, _⟩ => show win0_1.index t 2 * 1024 + 1 * r.val = r.val; rw [h2]; omega

include hh he

/-- Level 1's token array. -/
theorem tokens1 (b : Fin 2) (p : Fin 1024) : (dats m 0 c).arrAt 7 cfg0.N (ix3 b 0 p) = BitVec.ofNat 32 (best e (h b p)) := by
  refine (dats m 0 c).arrAt_forall_of_cover 7
    (fun i v => ∀ (b : Fin 2) (p : Fin 1024), (i 0).val = b.val → (i 2).val = p.val → v = BitVec.ofNat 32 (best e (h b p)))
    (fun t hf y b p h0 h2 => ?_) (fun i => ?_) (ix3 b 0 p) b p rfl rfl
  · obtain ⟨y0, y1, r, rfl⟩ := eq_ix3 y
    obtain rfl := Subsingleton.elim y0 0
    obtain rfl := Subsingleton.elim y1 0
    refine (written7 (dats m 0 c) t _ (after0_7 m c t) (ix3 0 0 r)).trans ?_
    obtain ⟨g0, g1, g2⟩ := index_tab7 t
    have k0 : win0_7.index t 0 * 1 + 1 * 0 = b.val := h0
    have k2 : win0_7.index t 2 * 1024 + 1 * r.val = p.val := h2
    rw [g0] at k0
    rw [g2] at k2
    obtain rfl : r = p := Fin.ext (by omega)
    exact tokV1_eq (C1 m c) e (codes1 m c e he) (X1 m c (cur1 t)) (h b) (rows1 m c h hh (cur1 t) b (by rw [cur1_batch]; omega)) r
  · exact cover7 i

/-- Level 1's quantised array. -/
theorem quants1 (b : Fin 2) (d : Fin 256) (p : Fin 1024) : (dats m 0 c).arrAt 10 cfg0.N (ix3 b d p) = ((e (best e (h b p)) d : ℝ) : EReal) := by
  refine (dats m 0 c).arrAt_forall_of_cover 10
    (fun i v => ∀ (b : Fin 2) (d : Fin 256) (p : Fin 1024), (i 0).val = b.val → (i 1).val = d.val → (i 2).val = p.val → v = ((e (best e (h b p)) d : ℝ) : EReal))
    (fun t hf y b d p h0 h1 h2 => ?_) (fun i => ?_) (ix3 b d p) b d p rfl rfl rfl
  · obtain ⟨y0, y1, r, rfl⟩ := eq_ix3 y
    obtain rfl := Subsingleton.elim y0 0
    refine (written10 (dats m 0 c) t _ (after0_10 m c t) (ix3 0 y1 r)).trans ?_
    obtain ⟨g0, g1, g2⟩ := index_tab10 t
    have k0 : win0_10.index t 0 * 1 + 1 * 0 = b.val := h0
    have k1 : win0_10.index t 1 * 256 + 1 * y1.val = d.val := h1
    have k2 : win0_10.index t 2 * 1024 + 1 * r.val = p.val := h2
    rw [g0] at k0
    rw [g1] at k1
    rw [g2] at k2
    obtain rfl : y1 = d := Fin.ext (by omega)
    obtain rfl : r = p := Fin.ext (by omega)
    exact quantV1_eq (C1 m c) e (codes1 m c e he) (X1 m c (cur1 t)) (h b) (rows1 m c h hh (cur1 t) b (by rw [cur1_batch]; omega)) r y1
  · exact cover10 i

/-- Level 1's partial losses: of each batch's rows. -/
theorem losses1 (b : Fin 2) (i : S2x1x128.Idx) (h0 : (i 0).val = b.val) :
    (dats m 0 c).arrAt 13 cfg0.N i = (∑ r, ((sqDist (h b r) (e (best e (h b r))) : ℝ) : EReal) : EReal) := by
  refine (dats m 0 c).arrAt_forall_of_cover 13
    (fun i v => ∀ b : Fin 2, (i 0).val = b.val → v = (∑ r, ((sqDist (h b r) (e (best e (h b r))) : ℝ) : EReal) : EReal))
    (fun t hf y b h0 => ?_) (fun i => ?_) i b h0
  · obtain ⟨y0, y1, l, rfl⟩ := eq_ix3 y
    obtain rfl := Subsingleton.elim y0 0
    obtain rfl := Subsingleton.elim y1 0
    refine (written13 (dats m 0 c) t _ (after0_13 m c t) (ix3 0 0 l)).trans ?_
    obtain ⟨g0, g1, g2⟩ := index_tab13 t
    have k0 : win0_13.index t 0 * 1 + 1 * 0 = b.val := h0
    rw [g0] at k0
    exact lossV1_eq (C1 m c) e (codes1 m c e he) (X1 m c (cur1 t)) (h b) (rows1 m c h hh (cur1 t) b (by rw [cur1_batch]; omega)) l
  · exact cover13 i

end

/-! ## Level 2 -/

section
variable (h : Fin 2 → Fin 256 → Fin 256 → ℝ) (e : Fin 2048 → Fin 256 → ℝ)
  (hh : ∀ b p d, (m ((c.tc : Thread nD τ).loc main_arg2) (ix3 b d p) : EReal) = ((h b p d : ℝ) : EReal))
  (he : ∀ k d, (m ((c.tc : Thread nD τ).loc main_arg3) (ix2 k d) : EReal) = ((e k d : ℝ) : EReal))

/-- Level 2's codebook block is the codebook. -/
theorem C2_apply (k : Fin 2048) (d : Fin 256) : C2 m c (ix2 k d) = m ((c.tc : Thread nD τ).loc main_arg3) (ix2 k d) := by
  unfold C2 iblk
  rw [View.read_apply]
  show V m c main_arg3 _ = m (c.tc.loc main_arg3) _
  unfold V
  congr 1
  funext a
  apply Fin.ext
  match a with
  | ⟨0, _⟩ => show win0_5.index t0_0 0 * 2048 + 1 * k.val = k.val; rw [show win0_5.index t0_0 0 = 0 by decide +kernel]; omega
  | ⟨1, _⟩ => show win0_5.index t0_0 1 * 256 + 1 * d.val = d.val; rw [show win0_5.index t0_0 1 = 0 by decide +kernel]; omega

include he in
/-- Level 2's codebook block holds the real codebook. -/
theorem codes2 : RealCodes (C2 m c) e := fun k d => (C2_apply m c k d).trans (he k d)

include hh in
/-- The level-2 tile of a batch is the batch's part of the latent. -/
theorem rows2 (t : Fin cfg0.N) (b : Fin 2) (hb : b.val = t.val / 4) (r : Fin 256) (d : Fin 256) : (X2 m c t (ix3 0 d r) : EReal) = ((h b r d : ℝ) : EReal) := by
  refine Eq.trans ?_ (hh b r d)
  unfold X2 iblk
  rw [View.read_apply]
  show V m c main_arg2 _ = m (c.tc.loc main_arg2) _
  unfold V
  congr 1
  obtain ⟨h0, h1, h2⟩ := (index_tab t).2.2.1
  funext a
  apply Fin.ext
  match a with
  | ⟨0, _⟩ => show win0_2.index t 0 * 1 + 1 * 0 = b.val; rw [h0]; omega
  | ⟨1, _⟩ => show win0_2.index t 1 * 256 + 1 * d.val = d.val; rw [h1]; omega
  | ⟨2, _⟩ => show win0_2.index t 2 * 256 + 1 * r.val = r.val; rw [h2]; omega

include hh he

/-- Level 2's token array. -/
theorem tokens2 (b : Fin 2) (p : Fin 256) : (dats m 0 c).arrAt 8 cfg0.N (ix3 b 0 p) = BitVec.ofNat 32 (best e (h b p)) := by
  refine (dats m 0 c).arrAt_forall_of_cover 8
    (fun i v => ∀ (b : Fin 2) (p : Fin 256), (i 0).val = b.val → (i 2).val = p.val → v = BitVec.ofNat 32 (best e (h b p)))
    (fun t hf y b p h0 h2 => ?_) (fun i => ?_) (ix3 b 0 p) b p rfl rfl
  · obtain ⟨y0, y1, r, rfl⟩ := eq_ix3 y
    obtain rfl := Subsingleton.elim y0 0
    obtain rfl := Subsingleton.elim y1 0
    refine (written8 (dats m 0 c) t _ (after0_8 m c t) (ix3 0 0 r)).trans ?_
    obtain ⟨g0, g1, g2⟩ := index_tab8 t
    have k0 : win0_8.index t 0 * 1 + 1 * 0 = b.val := h0
    have k2 : win0_8.index t 2 * 256 + 1 * r.val = p.val := h2
    rw [g0] at k0
    rw [g2] at k2
    obtain rfl : r = p := Fin.ext (by omega)
    exact tokV2_eq (C2 m c) e (codes2 m c e he) (X2 m c (cur2 t)) (h b) (rows2 m c h hh (cur2 t) b (by rw [cur2_batch]; omega)) r
  · exact cover8 i

/-- Level 2's quantised array. -/
theorem quants2 (b : Fin 2) (d : Fin 256) (p : Fin 256) : (dats m 0 c).arrAt 11 cfg0.N (ix3 b d p) = ((e (best e (h b p)) d : ℝ) : EReal) := by
  refine (dats m 0 c).arrAt_forall_of_cover 11
    (fun i v => ∀ (b : Fin 2) (d : Fin 256) (p : Fin 256), (i 0).val = b.val → (i 1).val = d.val → (i 2).val = p.val → v = ((e (best e (h b p)) d : ℝ) : EReal))
    (fun t hf y b d p h0 h1 h2 => ?_) (fun i => ?_) (ix3 b d p) b d p rfl rfl rfl
  · obtain ⟨y0, y1, r, rfl⟩ := eq_ix3 y
    obtain rfl := Subsingleton.elim y0 0
    refine (written11 (dats m 0 c) t _ (after0_11 m c t) (ix3 0 y1 r)).trans ?_
    obtain ⟨g0, g1, g2⟩ := index_tab11 t
    have k0 : win0_11.index t 0 * 1 + 1 * 0 = b.val := h0
    have k1 : win0_11.index t 1 * 256 + 1 * y1.val = d.val := h1
    have k2 : win0_11.index t 2 * 256 + 1 * r.val = p.val := h2
    rw [g0] at k0
    rw [g1] at k1
    rw [g2] at k2
    obtain rfl : y1 = d := Fin.ext (by omega)
    obtain rfl : r = p := Fin.ext (by omega)
    exact quantV2_eq (C2 m c) e (codes2 m c e he) (X2 m c (cur2 t)) (h b) (rows2 m c h hh (cur2 t) b (by rw [cur2_batch]; omega)) r y1
  · exact cover11 i

/-- Level 2's partial losses: of each batch's rows. -/
theorem losses2 (b : Fin 2) (i : S2x1x128.Idx) (h0 : (i 0).val = b.val) :
    (dats m 0 c).arrAt 14 cfg0.N i = (∑ r, ((sqDist (h b r) (e (best e (h b r))) : ℝ) : EReal) : EReal) := by
  refine (dats m 0 c).arrAt_forall_of_cover 14
    (fun i v => ∀ b : Fin 2, (i 0).val = b.val → v = (∑ r, ((sqDist (h b r) (e (best e (h b r))) : ℝ) : EReal) : EReal))
    (fun t hf y b h0 => ?_) (fun i => ?_) i b h0
  · obtain ⟨y0, y1, l, rfl⟩ := eq_ix3 y
    obtain rfl := Subsingleton.elim y0 0
    obtain rfl := Subsingleton.elim y1 0
    refine (written14 (dats m 0 c) t _ (after0_14 m c t) (ix3 0 0 l)).trans ?_
    obtain ⟨g0, g1, g2⟩ := index_tab14 t
    have k0 : win0_14.index t 0 * 1 + 1 * 0 = b.val := h0
    rw [g0] at k0
    exact lossV2_eq (C2 m c) e (codes2 m c e he) (X2 m c (cur2 t)) (h b) (rows2 m c h hh (cur2 t) b (by rw [cur2_batch]; omega)) l
  · exact cover14 i

end

end Cert.Proof.KI

end
-- ==== Proof.KTail.lean ====
/-
  The kernel's host lines after its grid, at an index: the tokens are re-blocked, and a level's loss is a multiple of
  the sum of its partial losses.
-/
module

public import Idealize.ShloMosaic.Lib.StableHlo.RunClose
public import Idealize.ShloMosaic.Lib.Pointwise
public import proofs.«01_k».proof.Proof.Spec
public import proofs.«01_k».proof.Proof.KArr0
public import proofs.«01_k».proof.Proof.KArr1

@[expose] public section

set_option maxRecDepth 16384

noncomputable section

namespace Cert.Proof.KI

open Cert.KernelIdeal Cert.KernelIdeal.Gen
open Idealize.ShloMosaic Idealize.ShloMosaic.TcCoe Idealize.ShloMosaic.StableHlo Idealize.SL.Sem
open Cert.Proof.VQ

section
variable (V : Valuation τ sig (Elt Ideal))

/-- Level 0's tokens, two tiles per batch row. -/
theorem tail_tok0 (b : Fin 2) (p : Fin 4096) :
    after hostOps1 V (main_v1 : DevRef τ sig) (ix2 b p)
      = V (main_v0_0 : DevRef τ sig) (ix3 ⟨b.val * 2 + p.val / 2048, by omega⟩ 0 ⟨p.val % 2048, by omega⟩) := by
  after_results
  pointwise

/-- Level 1's tokens. -/
theorem tail_tok1 (b : Fin 2) (p : Fin 1024) :
    after hostOps1 V (main_v2 : DevRef τ sig) (ix2 b p) = V (main_v0_1 : DevRef τ sig) (ix3 b 0 p) := by
  after_results
  pointwise

/-- Level 2's tokens. -/
theorem tail_tok2 (b : Fin 2) (p : Fin 256) :
    after hostOps1 V (main_v3 : DevRef τ sig) (ix2 b p) = V (main_v0_2 : DevRef τ sig) (ix3 b 0 p) := by
  after_results
  pointwise

/-- Level 0's loss, of the four tiles' partial losses. -/
theorem tail_loss0 (x : Fin 4 → EReal) (hx : ∀ j, V (main_v0_6 : DevRef τ sig) (ix3 j 0 0) = x j) (S : EReal) (hS : ∑ j, x j = S) :
    (after hostOps1 V (main_v9 : DevRef τ sig) ix0 : EReal) = Ideal.div (Ideal.sqrt S * Ideal.sqrt S) (Ideal.ofBits .f32 0x4A000000#32) := by
  subst hS
  simp only [← hx]
  after_results
  pointwise
  simp only [Fin.sum_univ_one]

/-- Level 1's loss, of the two batch rows' partial losses. -/
theorem tail_loss1 (x : Fin 2 → EReal) (hx : ∀ j, V (main_v0_7 : DevRef τ sig) (ix3 j 0 0) = x j) (S : EReal) (hS : ∑ j, x j = S) :
    (after hostOps1 V (main_v15 : DevRef τ sig) ix0 : EReal) = Ideal.div (Ideal.sqrt S * Ideal.sqrt S) (Ideal.ofBits .f32 0x49000000#32) := by
  subst hS
  simp only [← hx]
  after_results
  pointwise
  simp only [Fin.sum_univ_one]

/-- Level 2's loss, of the two batch rows' partial losses. -/
theorem tail_loss2 (x : Fin 2 → EReal) (hx : ∀ j, V (main_v0_8 : DevRef τ sig) (ix3 j 0 0) = x j) (S : EReal) (hS : ∑ j, x j = S) :
    (after hostOps1 V (main_v21 : DevRef τ sig) ix0 : EReal) = Ideal.div (Ideal.sqrt S * Ideal.sqrt S) (Ideal.ofBits .f32 0x48000000#32) := by
  subst hS
  simp only [← hx]
  after_results
  pointwise
  simp only [Fin.sum_univ_one]

end

variable (m : (ℓ : Loc nD τ sig) → Buf (Elt Ideal) ℓ) (ρ : Dev nD → PrngReg) (c : Dev nD)

/-- The device's contents when the grid ends. -/
def atEnd : Valuation τ sig (Elt Ideal) :=
  Pipeline.withArrays (cfgs 0).spec c (V0 m c) fun w => (dats m 0 c).arrAt w (cfgs 0).N

/-- No two windows share an array. -/
theorem arrays_apart : Function.Injective (Pipeline.arrRef (cfgs 0).spec) := by
  show Function.Injective (Pipeline.arrRef spec0)
  decide

/-- A result's array at the grid's end. -/
theorem atEnd_arr (w : Fin (cfgs 0).W) : atEnd m c (Proc.devRef .tc (Pipeline.arrRef (cfgs 0).spec w)) = (dats m 0 c).arrAt w (cfgs 0).N :=
  Pipeline.withArrays_arr (cfgs 0).spec arrays_apart c (V0 m c) _ w

/-- The contents of a buffer no window covers, after the whole program. -/
theorem rest_eq {r} (h : Pipeline.FramePost cfgs (dats m) 0 (Pipeline.afterTail₀ cfgs (dats m) 0 (V0 m) [hostOps1]) r) (b : Ref sig .tc)
    (hb : b ∈ Pipeline.restRefs sig (cfgs 0).spec) : r.2.mem ((c.tc : Thread nD τ).loc b) = after hostOps1 (atEnd m c) (Proc.devRef .tc b) :=
  (h c).2 b hb

/-- The contents of an array after the whole program. -/
theorem arr_eq {r} (h : Pipeline.FramePost cfgs (dats m) 0 (Pipeline.afterTail₀ cfgs (dats m) 0 (V0 m) [hostOps1]) r) (w : Fin (cfgs 0).W) :
    r.2.mem (((cfgs 0).spec w).arr.view.loc (c.tc : Thread nD τ)) = (dats m 0 c).arrAt w (cfgs 0).N :=
  (h c).1 w

section
variable (h : Fin 2 → Fin 4096 → Fin 256 → ℝ) (h1 : Fin 2 → Fin 1024 → Fin 256 → ℝ) (h2 : Fin 2 → Fin 256 → Fin 256 → ℝ)
  (e e1 e2 : Fin 2048 → Fin 256 → ℝ)
  (hh : ∀ b p d, (m ((c.tc : Thread nD τ).loc main_arg0) (ix3 b d p) : EReal) = ((h b p d : ℝ) : EReal))
  (hh1 : ∀ b p d, (m ((c.tc : Thread nD τ).loc main_arg1) (ix3 b d p) : EReal) = ((h1 b p d : ℝ) : EReal))
  (hh2 : ∀ b p d, (m ((c.tc : Thread nD τ).loc main_arg2) (ix3 b d p) : EReal) = ((h2 b p d : ℝ) : EReal))
  (he : ∀ k d, (m ((c.tc : Thread nD τ).loc main_arg5) (ix2 k d) : EReal) = ((e k d : ℝ) : EReal))
  (he1 : ∀ k d, (m ((c.tc : Thread nD τ).loc main_arg4) (ix2 k d) : EReal) = ((e1 k d : ℝ) : EReal))
  (he2 : ∀ k d, (m ((c.tc : Thread nD τ).loc main_arg3) (ix2 k d) : EReal) = ((e2 k d : ℝ) : EReal))

include hh he in
/-- Level 0's tokens, at the end. -/
theorem end_tok0 : after hostOps1 (atEnd m c) (main_v1 : DevRef τ sig) = tokens h e := by
  refine ext2 fun b p => ?_
  refine (tail_tok0 _ b p).trans ((congrFun (atEnd_arr m c 6) _).trans ?_)
  exact tokens0 m c h e hh he b p _ rfl rfl

include hh1 he1 in
/-- Level 1's tokens, at the end. -/
theorem end_tok1 : after hostOps1 (atEnd m c) (main_v2 : DevRef τ sig) = tokens h1 e1 := by
  refine ext2 fun b p => ?_
  refine (tail_tok1 _ b p).trans ((congrFun (atEnd_arr m c 7) _).trans ?_)
  exact tokens1 m c h1 e1 hh1 he1 b p

include hh2 he2 in
/-- Level 2's tokens, at the end. -/
theorem end_tok2 : after hostOps1 (atEnd m c) (main_v3 : DevRef τ sig) = tokens h2 e2 := by
  refine ext2 fun b p => ?_
  refine (tail_tok2 _ b p).trans ((congrFun (atEnd_arr m c 8) _).trans ?_)
  exact tokens2 m c h2 e2 hh2 he2 b p

include hh he in
/-- Level 0's loss, at the end. -/
theorem end_loss0 : after hostOps1 (atEnd m c) (main_v9 : DevRef τ sig) = loss h e 0x4A000000#32 := by
  refine ext0 ?_
  refine tail_loss0 _ (fun j => ∑ r : Fin 2048, ((sqDist (h ⟨j.val / 2, by omega⟩ ⟨j.val % 2 * 2048 + r.val, by omega⟩)
    (e (best e (h ⟨j.val / 2, by omega⟩ ⟨j.val % 2 * 2048 + r.val, by omega⟩))) : ℝ) : EReal))
    (fun j => (congrFun (atEnd_arr m c 12) _).trans (losses0 m c h e hh he ⟨j.val / 2, by omega⟩ ⟨j.val % 2, by omega⟩ _ ?_)) _ ?_
  · show j.val = j.val / 2 * 2 + j.val % 2
    omega
  · exact (total_halves h e).symm

include hh1 he1 in
/-- Level 1's loss, at the end. -/
theorem end_loss1 : after hostOps1 (atEnd m c) (main_v15 : DevRef τ sig) = loss h1 e1 0x49000000#32 :=
  ext0 (tail_loss1 _ _ (fun j => (congrFun (atEnd_arr m c 13) _).trans (losses1 m c h1 e1 hh1 he1 j _ rfl)) _ rfl)

include hh2 he2 in
/-- Level 2's loss, at the end. -/
theorem end_loss2 : after hostOps1 (atEnd m c) (main_v21 : DevRef τ sig) = loss h2 e2 0x48000000#32 :=
  ext0 (tail_loss2 _ _ (fun j => (congrFun (atEnd_arr m c 14) _).trans (losses2 m c h2 e2 hh2 he2 j _ rfl)) _ rfl)

include hh he in
/-- Level 0's quantised output, at the end. -/
theorem end_quant0 : (dats m 0 c).arrAt 9 (cfgs 0).N = quantised h e :=
  ext3 fun b d p => quants0 m c h e hh he b d p

include hh1 he1 in
/-- Level 1's quantised output, at the end. -/
theorem end_quant1 : (dats m 0 c).arrAt 10 (cfgs 0).N = quantised h1 e1 :=
  ext3 fun b d p => quants1 m c h1 e1 hh1 he1 b d p

include hh2 he2 in
/-- Level 2's quantised output, at the end. -/
theorem end_quant2 : (dats m 0 c).arrAt 11 (cfgs 0).N = quantised h2 e2 :=
  ext3 fun b d p => quants2 m c h2 e2 hh2 he2 b d p

end

/-- The kernel's run: its nine results are the quantiser's, its arguments are unchanged. -/
theorem values (h : Dev nD → Fin 2 → Fin 4096 → Fin 256 → ℝ) (h1 : Dev nD → Fin 2 → Fin 1024 → Fin 256 → ℝ) (h2 : Dev nD → Fin 2 → Fin 256 → Fin 256 → ℝ)
    (e e1 e2 : Dev nD → Fin 2048 → Fin 256 → ℝ)
    (hh : ∀ (c : Dev nD) b p d, (m ((c.tc : Thread nD τ).loc main_arg0) (ix3 b d p) : EReal) = ((h c b p d : ℝ) : EReal))
    (hh1 : ∀ (c : Dev nD) b p d, (m ((c.tc : Thread nD τ).loc main_arg1) (ix3 b d p) : EReal) = ((h1 c b p d : ℝ) : EReal))
    (hh2 : ∀ (c : Dev nD) b p d, (m ((c.tc : Thread nD τ).loc main_arg2) (ix3 b d p) : EReal) = ((h2 c b p d : ℝ) : EReal))
    (he : ∀ (c : Dev nD) k d, (m ((c.tc : Thread nD τ).loc main_arg5) (ix2 k d) : EReal) = ((e c k d : ℝ) : EReal))
    (he1 : ∀ (c : Dev nD) k d, (m ((c.tc : Thread nD τ).loc main_arg4) (ix2 k d) : EReal) = ((e1 c k d : ℝ) : EReal))
    (he2 : ∀ (c : Dev nD) k d, (m ((c.tc : Thread nD τ).loc main_arg3) (ix2 k d) : EReal) = ((e2 c k d : ℝ) : EReal)) :
    θ_run defs (onTc (τ := τ) (main (F := Ideal))) ⟨m, fun _ => 0, ρ⟩ (fun r => ∀ c : Dev nD,
      r.2.mem ((c.tc : Thread nD τ).loc main_v1) = tokens (h c) (e c)
      ∧ r.2.mem ((c.tc : Thread nD τ).loc main_v2) = tokens (h1 c) (e1 c)
      ∧ r.2.mem ((c.tc : Thread nD τ).loc main_v3) = tokens (h2 c) (e2 c)
      ∧ r.2.mem ((c.tc : Thread nD τ).loc main_v0_3) = quantised (h c) (e c)
      ∧ r.2.mem ((c.tc : Thread nD τ).loc main_v0_4) = quantised (h1 c) (e1 c)
      ∧ r.2.mem ((c.tc : Thread nD τ).loc main_v0_5) = quantised (h2 c) (e2 c)
      ∧ r.2.mem ((c.tc : Thread nD τ).loc main_v9) = loss (h c) (e c) 0x4A000000#32
      ∧ r.2.mem ((c.tc : Thread nD τ).loc main_v15) = loss (h1 c) (e1 c) 0x49000000#32
      ∧ r.2.mem ((c.tc : Thread nD τ).loc main_v21) = loss (h2 c) (e2 c) 0x48000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ H c =>
    ⟨(rest_eq m c H.1 main_v1 (by decide)).trans (end_tok0 m c (h c) (e c) (hh c) (he c)),
      (rest_eq m c H.1 main_v2 (by decide)).trans (end_tok1 m c (h1 c) (e1 c) (hh1 c) (he1 c)),
      (rest_eq m c H.1 main_v3 (by decide)).trans (end_tok2 m c (h2 c) (e2 c) (hh2 c) (he2 c)),
      (arr_eq m c H.1 9).trans (end_quant0 m c (h c) (e c) (hh c) (he c)),
      (arr_eq m c H.1 10).trans (end_quant1 m c (h1 c) (e1 c) (hh1 c) (he1 c)),
      (arr_eq m c H.1 11).trans (end_quant2 m c (h2 c) (e2 c) (hh2 c) (he2 c)),
      (rest_eq m c H.1 main_v9 (by decide)).trans (end_loss0 m c (h c) (e c) (hh c) (he c)),
      (rest_eq m c H.1 main_v15 (by decide)).trans (end_loss1 m c (h1 c) (e1 c) (hh1 c) (he1 c)),
      (rest_eq m c H.1 main_v21 (by decide)).trans (end_loss2 m c (h2 c) (e2 c) (hh2 c) (he2 c)),
      H.2 c⟩) (θ_run_and (run_main m ρ) (unchanged m ρ))

end Cert.Proof.KI

end
-- ==== Proof.RefMath.lean ====
/-
  Two operations of the reference read at an index: the search for a row's least entry, which takes value and position
  along together, and the reading of a table's rows at computed row numbers.
-/
module

public import Idealize.ShloMosaic.PureOps.Ideal.Laws
public import Idealize.ShloMosaic.Lib.Pointwise
public import proofs.«01_k».proof.ReferenceIdeal
public import proofs.«01_k».proof.Proof.Math

@[expose] public section

set_option maxRecDepth 16384

noncomputable section

namespace Cert.Proof.Ref

open Cert.ReferenceIdeal
open Idealize.ShloMosaic Cert.Proof.VQ

/-! ## The search -/

/-- Of two (value, position) pairs the first comes before the second: less, or equal and no later. -/
def Before (p q : EReal × BitVec 32) : Prop := p.1 < q.1 ∨ (p.1 = q.1 ∧ p.2.toInt ≤ q.2.toInt)

/-- Every pair precedes itself or equals it. -/
theorem Before.refl (p : EReal × BitVec 32) : Before p p := .inr ⟨rfl, le_rfl⟩

/-- The order of the pairs is transitive. -/
theorem Before.trans {p q r : EReal × BitVec 32} (h : Before p q) (h' : Before q r) : Before p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- The body of the search returns the pair that comes first. -/
theorem reducer_first (a b : EReal × BitVec 32) :
    (reducer_argmin_f32_i32 (F := Ideal) a b = a ∧ Before a b) ∨ (reducer_argmin_f32_i32 (F := Ideal) a b = b ∧ Before b a) := by
  obtain ⟨a1, a2⟩ := a
  obtain ⟨b1, b2⟩ := b
  have e : reducer_argmin_f32_i32 (F := Ideal) (a1, a2) (b1, b2)
      = (if a1 < b1 then a1 else b1, if a1 < b1 ∨ (a1 = b1 ∧ a2.toInt < b2.toInt) then a2 else b2) := by
    show (Scalar.select (IntOp.ori (Ideal.cmp .olt a1 b1) (Ideal.cmp .une a1 a1)) a1 b1,
      Scalar.select (IntOp.ori (IntOp.ori (Ideal.cmp .olt a1 b1) (Ideal.cmp .une a1 a1))
        (IntOp.andi (Ideal.cmp .oeq a1 b1) (IntOp.cmpi .slt a2 b2))) a2 b2) = _
    by_cases h1 : a1 < b1 <;> by_cases h2 : a1 = b1 <;> by_cases h3 : a2.toInt < b2.toInt <;>
      simp [Ideal.cmp, IntOp.ori, IntOp.andi, IntOp.cmpi, Scalar.select, BitVec.slt, h1, h2, h3]
  rw [e]
  by_cases h1 : a1 < b1
  · left
    simp [h1, Before]
  · by_cases h2 : a1 = b1
    · subst h2
      by_cases h3 : a2.toInt < b2.toInt
      · left; simp [h3, Before, h3.le]
      · right; simp [h3, Before, not_lt.1 h3]
    · right
      simp [h1, h2, Before, lt_of_le_of_ne (not_lt.1 h1) (Ne.symm h2)]

/-- So over a list it returns the starting pair or one of the list, and that comes before them all. -/
theorem foldl_first (L : List (EReal × BitVec 32)) : ∀ p : EReal × BitVec 32,
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ q ∈ L, Before (L.foldl (reducer_argmin_f32_i32 (F := Ideal)) p) q := by
  induction L with
  | nil => exact fun p => ⟨.inl rfl, .refl p, fun q hq => absurd hq List.not_mem_nil⟩
  | cons x L ih =>
    intro p
    obtain ⟨h1, h2, h3⟩ := ih (reducer_argmin_f32_i32 (F := Ideal) p x)
    rw [List.foldl_cons]
    have hp : Before (reducer_argmin_f32_i32 (F := Ideal) p x) p ∧ Before (reducer_argmin_f32_i32 (F := Ideal) p x) x
        ∧ (reducer_argmin_f32_i32 (F := Ideal) p x = p ∨ reducer_argmin_f32_i32 (F := Ideal) p x = x) := by
      rcases reducer_first p x with ⟨e, h⟩ | ⟨e, h⟩
      · rw [e]; exact ⟨.refl _, h, .inl rfl⟩
      · rw [e]; exact ⟨h, .refl _, .inr rfl⟩
    refine ⟨?_, h2.trans hp.1, fun q hq => ?_⟩
    · rcases h1 with h1 | h1
      · rw [h1]
        rcases hp.2.2 with e | e
        · exact .inl e
        · exact .inr (by rw [e]; exact List.mem_cons_self)
      · exact .inr (List.mem_cons_of_mem _ h1)
    · rcases List.mem_cons.1 hq with rfl | hq
      · exact h2.trans hp.2.1
      · exact h3 q hq

/-- The search along the rows of an array of real numbers gives the first position of the row's least entry. -/
theorem search_apply {n : ℕ} (x : FVec Ideal ⟨2, ![n, 2048]⟩ .f32) (y : (⟨2, ![n, 2048]⟩ : Shape).Idx → BitVec 32)
    (ix : (⟨0, ![]⟩ : Shape).Idx → Ideal .f32) (iy : (⟨0, ![]⟩ : Shape).Idx → BitVec 32)
    (h : (⟨2, ![n, 2048]⟩ : Shape).ReducesTo [1] ⟨1, ![n]⟩) (hu : 0 < (⟨0, ![]⟩ : Shape).numel)
    (hix : ∀ i, ix i = (⊤ : EReal)) (hy : ∀ i k, y (ix2 i k) = BitVec.ofNat 32 k.val) (r : Fin n)
    (D : Fin 2048 → ℝ) (hD : ∀ k, (x (ix2 r k) : EReal) = ((D k : ℝ) : EReal)) {k : Fin 2048} (hk : IsBest D k) :
    (Host.argReduce (reducer_argmin_f32_i32 (F := Ideal)) x y ix iy h hu (ix1 r)).2 = BitVec.ofNat 32 k.val := by
  rw [Ideal.argReduce_eq_reduce2, Host.reduce2_eq_foldl_fiber]
  have hdrop : ∀ i : (⟨2, ![n, 2048]⟩ : Shape).Idx, h.drop i = ix1 r ↔ i 0 = r := fun i => by
    have e : (h.drop i 0 : ℕ) = (i 0 : ℕ) := h.drop_apply_val_of_eq i 0 0 Nat.zero_lt_one rfl
    constructor
    · exact fun he => Fin.ext (e.symm.trans (congrArg Fin.val (congrFun he 0)))
    · intro he
      funext a
      obtain rfl : a = 0 := Subsingleton.elim a 0
      exact Fin.ext (e.trans (congrArg Fin.val he))
  have hmem : ∀ p : EReal × BitVec 32, p ∈ Host.argReduceFiber x y h (ix1 r) ↔ ∃ j : Fin 2048, p = (((D j : ℝ) : EReal), BitVec.ofNat 32 j.val) := by
    intro p
    simp only [Host.argReduceFiber, List.mem_map, List.mem_filter, List.mem_finRange, true_and, decide_eq_true_eq, hdrop]
    constructor
    · rintro ⟨w, hw, rfl⟩
      obtain ⟨j, e⟩ : ∃ j : Fin 2048, (⟨2, ![n, 2048]⟩ : Shape).rowMajor.symm w = ix2 r j := by
        refine ⟨(⟨2, ![n, 2048]⟩ : Shape).rowMajor.symm w 1, funext fun a => ?_⟩
        match a with
        | ⟨0, _⟩ => exact hw
        | ⟨1, _⟩ => rfl
      refine ⟨j, ?_⟩
      rw [e, hy]
      exact Prod.ext (hD _) rfl
    · rintro ⟨j, rfl⟩
      refine ⟨(⟨2, ![n, 2048]⟩ : Shape).rowMajor (ix2 r j), ?_, ?_⟩
      · rw [Equiv.symm_apply_apply]; rfl
      · rw [Equiv.symm_apply_apply, hy]
        exact Prod.ext (hD _) rfl
  obtain ⟨h1, h2, h3⟩ := foldl_first (Host.argReduceFiber x y h (ix1 r)) (ix (Shape.Idx.first hu), iy (Shape.Idx.first hu))
  have hin : ∃ j : Fin 2048, (Host.argReduceFiber x y h (ix1 r)).foldl (reducer_argmin_f32_i32 (F := Ideal))
      (ix (Shape.Idx.first hu), iy (Shape.Idx.first hu)) = (((D j : ℝ) : EReal), BitVec.ofNat 32 j.val) := by
    rcases h1 with h1 | h1
    · have := h3 _ ((hmem _).2 ⟨k, rfl⟩)
      rw [h1, Before, hix] at this
      rcases this with this | ⟨this, -⟩
      · exact absurd this (not_lt.2 le_top)
      · exact absurd this.symm (EReal.coe_ne_top _)
    · exact (hmem _).1 h1
  obtain ⟨j, hj⟩ := hin
  rw [hj] at h3
  have hb : IsBest D j := fun i => by
    have := h3 _ ((hmem _).2 ⟨i, rfl⟩)
    rw [Before, EReal.coe_lt_coe_iff, EReal.coe_eq_coe_iff, toInt_ofNat (by omega), toInt_ofNat (by omega)] at this
    rcases this with this | ⟨e, this⟩
    · exact .inl this
    · exact .inr ⟨e, Fin.le_def.2 (by omega)⟩
  rw [hj, hk.unique hb]

/-! ## Reading rows of a table -/

/-- Reading whole rows of a table at row numbers given one by one, and the conditions on its dimensions. -/
abbrev rowDims (N n D : ℕ) (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The entry read in row `r`, column `d`: the table's at the row number, read signed and kept inside the table. -/
theorem rows_apply {α : Type} {N n D w : ℕ} (hN : 0 < N) (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (d : Fin D) :
    Host.gather (rowDims N n D wf) x idx (ix2 r d) = x (ix2 ⟨min (idx (ix2 r 0)).toInt.toNat (N - 1), by omega⟩ d) := by
  unfold Host.gather
  congr 1
  funext a
  refine Fin.ext ?_
  show (rowDims N n D wf).start (ix2 r d) idx a + (rowDims N n D wf).batchCoord (ix2 r d) a + (rowDims N n D wf).offCoord (ix2 r d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N n D wf).startIndexMap from List.mem_singleton.mpr rfl)]
    have hsi : (rowDims N n D wf).siIdx (ix2 r d) ⟨List.idxOf (0 : Fin 2) (rowDims N n D wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · have h0 : (rowDims N n D wf).start (ix2 r d) idx 1 = 0 := by
      unfold GatherDims.start
      exact dif_neg (fun h => by simp at h)
    rw [h0, Nat.zero_add]
    rfl

/-- At the word of a row number of the table, that row. -/
theorem rows_word {α : Type} {n : ℕ} (wf : GatherDims.WF ⟨2, ![2048, 256]⟩ ⟨2, ![n, 1]⟩ ⟨2, ![n, 256]⟩ [1] [0] [] [0] [] 1 ![1, 256])
    (x : (⟨2, ![2048, 256]⟩ : Shape).Idx → α) (idx : IVec ⟨2, ![n, 1]⟩ 32) (r : Fin n) (d : Fin 256) (k : Fin 2048) (h : idx (ix2 r 0) = BitVec.ofNat 32 k.val) :
    Host.gather (rowDims 2048 n 256 wf) x idx (ix2 r d) = x (ix2 k d) := by
  rw [rows_apply (by decide)]
  congr 2
  refine Fin.ext ?_
  show min (idx (ix2 r 0)).toInt.toNat 2047 = k.val
  rw [h, toInt_ofNat (by omega)]
  omega

/-- The reading's own check that a row number lies in the table, of a word that does. -/
theorem in_table (k : Fin 2048) :
    (Scalar.select (IntOp.cmpi .slt (BitVec.ofNat 32 k.val) 0#32) (IntOp.addi (BitVec.ofNat 32 k.val) 2048#32) (BitVec.ofNat 32 k.val)) = BitVec.ofNat 32 k.val
    ∧ IntOp.cmpi .sge (BitVec.ofNat 32 k.val) 0#32 = 1#1 ∧ IntOp.cmpi .sle (BitVec.ofNat 32 k.val) 2047#32 = 1#1 := by
  have e := toInt_ofNat (n := k.val) (by omega)
  have e0 : (0#32 : BitVec 32).toInt = 0 := rfl
  have e1 : (2047#32 : BitVec 32).toInt = 2047 := rfl
  refine ⟨?_, ?_, ?_⟩
  · have : IntOp.cmpi .slt (BitVec.ofNat 32 k.val) 0#32 = 0#1 := by
      simp only [IntOp.cmpi, BitVec.slt, e, e0]
      rw [decide_eq_false (by omega)]; rfl
    rw [this]; rfl
  · simp only [IntOp.cmpi, BitVec.sle, e, e0]
    rw [decide_eq_true (by omega)]; rfl
  · simp only [IntOp.cmpi, BitVec.sle, e, e1]
    rw [decide_eq_true (by omega)]; rfl

/-- A conjunction along rows of bits that are all set is set. -/
theorem all_set {n : ℕ} (x : IVec ⟨2, ![n, 1]⟩ 1) (init : IVec ⟨0, ![]⟩ 1) (h : (⟨2, ![n, 1]⟩ : Shape).ReducesTo [1] ⟨1, ![n]⟩)
    (hu : 0 < (⟨0, ![]⟩ : Shape).numel) (hi : ∀ i, init i = 1#1) (hx : ∀ r, x (ix2 r 0) = 1#1) (j : (⟨1, ![n]⟩ : Shape).Idx) :
    Host.reduce IntOp.andi x init h hu j = 1#1 := by
  have hx' : x = fun _ => 1#1 := by
    funext i
    rw [show i = ix2 (i 0) 0 from funext fun a => by
      match a with
      | ⟨0, _⟩ => rfl
      | ⟨1, _⟩ => exact Subsingleton.elim (α := Fin 1) _ _]
    exact hx _
  rw [Host.reduce_eq_fold, hi, hx']
  generalize (Finset.univ.filter fun i => h.drop i = j) = s
  induction s using Finset.induction_on with
  | empty => rfl
  | insert a s ha ih => rw [Finset.fold_insert ha, ih]; rfl

/-- Words that pass the reading's check are read as they are. -/
theorem checked (k : Fin 2048) (w : BitVec 32) (hw : w = BitVec.ofNat 32 k.val) :
    Scalar.select (IntOp.cmpi .slt w 0#32) (IntOp.addi w 2048#32) w = BitVec.ofNat 32 k.val := by
  rw [hw]; exact (in_table k).1

end Cert.Proof.Ref

end
-- ==== Proof.RefLev0.lean ====
/-
  The reference's level 0 when its latent and its codebook are real numbers: the tokens are the words of the first
  nearest code words, the quantised output is those code words, and the loss is a multiple of the summed distances.
-/
module

public import Idealize.ShloMosaic.Lib.StableHlo.RunClose
public import Idealize.ShloMosaic.Lib.Pointwise
public import proofs.«01_k».proof.Proof.RefKeep
public import proofs.«01_k».proof.Proof.RefMath

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.VQ

variable (V : Valuation τ sig (Elt Ideal))

/-! ## The four stretches, at an index -/

/-- The latent as rows. -/
theorem latent0_apply (r : Fin 8192) (d : Fin 256) :
    (after dist0 V (main_v1 : DevRef τ sig) (ix2 r d) : EReal) = V (main_arg0 : DevRef τ sig) (ix3 ⟨r.val / 4096, by omega⟩ d ⟨r.val % 4096, by omega⟩) := by
  after_results
  pointwise

/-- The distances. -/
theorem dist0_apply (h : Fin 2 → Fin 4096 → Fin 256 → ℝ) (e : Fin 2048 → Fin 256 → ℝ)
    (hh : ∀ b p d, (V (main_arg0 : DevRef τ sig) (ix3 b d p) : EReal) = ((h b p d : ℝ) : EReal))
    (he : ∀ k d, (V (main_arg5 : DevRef τ sig) (ix2 k d) : EReal) = ((e k d : ℝ) : EReal)) (r : Fin 8192) (k : Fin 2048) :
    (after dist0 V (main_v15 : DevRef τ sig) (ix2 r k) : EReal) = ((sqDist (h ⟨r.val / 4096, by omega⟩ ⟨r.val % 4096, by omega⟩) (e k) : ℝ) : EReal) := by
  after_results
  pointwise
  exact dist_eq _ _ _ _ (fun d => hh ..) (fun d => he ..)

/-- The search. -/
theorem argmin0_apply (r : Fin 8192) (D : Fin 2048 → ℝ) (hD : ∀ k, (V (main_v15 : DevRef τ sig) (ix2 r k) : EReal) = ((D k : ℝ) : EReal))
    {k : Fin 2048} (hk : IsBest D k) : after argmin0 V (main_v16 : DevRef τ sig) (ix1 r) = BitVec.ofNat 32 k.val := by
  after_results
  exact search_apply _ _ _ _ _ _ (fun _ => inf_eq) (fun _ _ => rfl) r D hD hk

/-- The reading of the code words. -/
theorem take0_apply (k : Fin 8192 → Fin 2048) (hV : ∀ r, V (main_v16 : DevRef τ sig) (ix1 r) = BitVec.ofNat 32 (k r).val) (r : Fin 8192) (d : Fin 256) :
    (after take0 V (main_v17 : DevRef τ sig) (ix2 r d) : EReal) = V (main_arg5 : DevRef τ sig) (ix2 (k r) d) := by
  after_results
  pointwise
  rw [all_set]
  · refine (rows_word gather_S2048x256_S8192x1_S8192x256_1_0_n_n_0_1_1256_wf _ _ r d (k r) ?_)
    pointwise
    exact checked (k r) _ (hV r)
  · exact fun _ => rfl
  · intro r
    pointwise
    rw [checked (k r) _ (hV r), (in_table (k r)).2.1, (in_table (k r)).2.2]
    rfl

/-- Level 0's tokens, by batch and position. -/
theorem rest0_tok (b : Fin 2) (p : Fin 4096) :
    after rest0 V (main_v24 : DevRef τ sig) (ix2 b p) = V (main_v16 : DevRef τ sig) (ix1 ⟨b.val * 4096 + p.val, by omega⟩) := by
  after_results
  pointwise

/-- Level 0's quantised output, from the latent rows `y` and the code words read `x`. -/
theorem rest0_quant (x y : Fin 8192 → Fin 256 → EReal) (hx : ∀ r d, V (main_v17 : DevRef τ sig) (ix2 r d) = x r d)
    (hy : ∀ r d, V (main_v1 : DevRef τ sig) (ix2 r d) = y r d) (b : Fin 2) (d : Fin 256) (p : Fin 4096) :
    (after rest0 V (main_v26 : DevRef τ sig) (ix3 b d p) : EReal)
      = y ⟨b.val * 4096 + p.val, by omega⟩ d + (x ⟨b.val * 4096 + p.val, by omega⟩ d - y ⟨b.val * 4096 + p.val, by omega⟩ d) := by
  rw [← hx, ← hy]
  after_results
  pointwise

/-- Level 0's loss, from the latent rows `y` and the code words read `x`. -/
theorem rest0_loss (x y : Fin 8192 → Fin 256 → EReal) (hx : ∀ r d, V (main_v17 : DevRef τ sig) (ix2 r d) = x r d)
    (hy : ∀ r d, V (main_v1 : DevRef τ sig) (ix2 r d) = y r d) (S : EReal) (hS : ∑ r, ∑ d, (x r d - y r d) * (x r d - y r d) = S) :
    (after rest0 V (main_v21 : DevRef τ sig) ix0 : EReal) = Ideal.div (Ideal.sqrt S * Ideal.sqrt S) (Ideal.ofBits .f32 0x4A000000#32) := by
  subst hS
  simp only [← hx, ← hy]
  after_results
  pointwise

/-! ## The level -/

section
variable (h : Fin 2 → Fin 4096 → Fin 256 → ℝ) (e : Fin 2048 → Fin 256 → ℝ)
  (hh : ∀ b p d, (V (main_arg0 : DevRef τ sig) (ix3 b d p) : EReal) = ((h b p d : ℝ) : EReal))
  (he : ∀ k d, (V (main_arg5 : DevRef τ sig) (ix2 k d) : EReal) = ((e k d : ℝ) : EReal))

/-- Row `r` of the latent. -/
abbrev row0 (r : Fin 8192) : Fin 256 → ℝ := h ⟨r.val / 4096, by omega⟩ ⟨r.val % 4096, by omega⟩

/-- The row of a batch and a position. -/
theorem row0_eq (b : Fin 2) (p : Fin 4096) : row0 h ⟨b.val * 4096 + p.val, by omega⟩ = h b p := by
  have hb : (⟨(b.val * 4096 + p.val) / 4096, by omega⟩ : Fin 2) = b := Fin.ext (by show (b.val * 4096 + p.val) / 4096 = b.val; omega)
  have hp : (⟨(b.val * 4096 + p.val) % 4096, by omega⟩ : Fin 4096) = p := Fin.ext (by show (b.val * 4096 + p.val) % 4096 = p.val; omega)
  exact (congrArg (fun x => h x _) hb).trans (congrArg (h b) hp)

include hh he

/-- A row's token is its first nearest code word's. -/
theorem found0 (r : Fin 8192) : after argmin0 (after dist0 V) (main_v16 : DevRef τ sig) (ix1 r) = BitVec.ofNat 32 (best e (row0 h r)).val :=
  argmin0_apply _ r _ (fun k => dist0_apply V h e hh he r k) (best_isBest e (row0 h r))

/-- The code word read for a row is its first nearest. -/
theorem taken0 (r : Fin 8192) (d : Fin 256) :
    (after take0 (after argmin0 (after dist0 V)) (main_v17 : DevRef τ sig) (ix2 r d) : EReal) = ((e (best e (row0 h r)) d : ℝ) : EReal) := by
  refine (take0_apply _ (fun r => best e (row0 h r)) (found0 V h e hh he) r d).trans ?_
  rw [argmin0_keep _ (by decide), dist0_keep _ (by decide)]
  exact he _ _

omit he in
/-- The latent rows are still there. -/
theorem kept0 (r : Fin 8192) (d : Fin 256) :
    (after take0 (after argmin0 (after dist0 V)) (main_v1 : DevRef τ sig) (ix2 r d) : EReal) = ((row0 h r d : ℝ) : EReal) := by
  rw [take0_keep _ (by decide), argmin0_keep _ (by decide)]
  exact (latent0_apply V r d).trans (hh ..)

/-- Level 0's tokens. -/
theorem lev0_tok (b : Fin 2) (p : Fin 4096) : after lev0 V (main_v24 : DevRef τ sig) (ix2 b p) = BitVec.ofNat 32 (best e (h b p)).val := by
  rw [lev0_after]
  refine (rest0_tok _ b p).trans ?_
  rw [take0_keep _ (by decide)]
  refine (found0 V h e hh he _).trans ?_
  rw [row0_eq]

/-- Level 0's quantised output. -/
theorem lev0_quant (b : Fin 2) (d : Fin 256) (p : Fin 4096) : (after lev0 V (main_v26 : DevRef τ sig) (ix3 b d p) : EReal) = ((e (best e (h b p)) d : ℝ) : EReal) := by
  rw [lev0_after]
  refine (rest0_quant _ _ _ (taken0 V h e hh he) (kept0 V h hh) b d p).trans ?_
  rw [back_eq, row0_eq]

/-- Level 0's loss. -/
theorem lev0_loss : (after lev0 V (main_v21 : DevRef τ sig) ix0 : EReal)
    = Ideal.div (Ideal.sqrt (∑ r : Fin 8192, ((sqDist (row0 h r) (e (best e (row0 h r))) : ℝ) : EReal))
        * Ideal.sqrt (∑ r : Fin 8192, ((sqDist (row0 h r) (e (best e (row0 h r))) : ℝ) : EReal))) (Ideal.ofBits .f32 0x4A000000#32) := by
  rw [lev0_after]
  exact rest0_loss _ _ _ (taken0 V h e hh he) (kept0 V h hh) _ (Finset.sum_congr rfl fun r _ => row_eq _ _)

end

end Cert.Proof.Ref

end
-- ==== Proof.RefLev1.lean ====
/-
  The reference's level 1 when its latent and its codebook are real numbers: the tokens are the words of the first
  nearest code words, the quantised output is those code words, and the loss is a multiple of the summed distances.
-/
module

public import Idealize.ShloMosaic.Lib.StableHlo.RunClose
public import Idealize.ShloMosaic.Lib.Pointwise
public import proofs.«01_k».proof.Proof.RefKeep
public import proofs.«01_k».proof.Proof.RefMath

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.VQ

variable (V : Valuation τ sig (Elt Ideal))

/-! ## The four stretches, at an index -/

/-- The latent as rows. -/
theorem latent1_apply (r : Fin 2048) (d : Fin 256) :
    (after dist1 V (main_v28 : DevRef τ sig) (ix2 r d) : EReal) = V (main_arg1 : DevRef τ sig) (ix3 ⟨r.val / 1024, by omega⟩ d ⟨r.val % 1024, by omega⟩) := by
  after_results
  pointwise

/-- The distances. -/
theorem dist1_apply (h : Fin 2 → Fin 1024 → Fin 256 → ℝ) (e : Fin 2048 → Fin 256 → ℝ)
    (hh : ∀ b p d, (V (main_arg1 : DevRef τ sig) (ix3 b d p) : EReal) = ((h b p d : ℝ) : EReal))
    (he : ∀ k d, (V (main_arg4 : DevRef τ sig) (ix2 k d) : EReal) = ((e k d : ℝ) : EReal)) (r : Fin 2048) (k : Fin 2048) :
    (after dist1 V (main_v42 : DevRef τ sig) (ix2 r k) : EReal) = ((sqDist (h ⟨r.val / 1024, by omega⟩ ⟨r.val % 1024, by omega⟩) (e k) : ℝ) : EReal) := by
  after_results
  pointwise
  exact dist_eq _ _ _ _ (fun d => hh ..) (fun d => he ..)

/-- The search. -/
theorem argmin1_apply (r : Fin 2048) (D : Fin 2048 → ℝ) (hD : ∀ k, (V (main_v42 : DevRef τ sig) (ix2 r k) : EReal) = ((D k : ℝ) : EReal))
    {k : Fin 2048} (hk : IsBest D k) : after argmin1 V (main_v43 : DevRef τ sig) (ix1 r) = BitVec.ofNat 32 k.val := by
  after_results
  exact search_apply _ _ _ _ _ _ (fun _ => inf_eq) (fun _ _ => rfl) r D hD hk

/-- The reading of the code words. -/
theorem take1_apply (k : Fin 2048 → Fin 2048) (hV : ∀ r, V (main_v43 : DevRef τ sig) (ix1 r) = BitVec.ofNat 32 (k r).val) (r : Fin 2048) (d : Fin 256) :
    (after take1 V (main_v44 : DevRef τ sig) (ix2 r d) : EReal) = V (main_arg4 : DevRef τ sig) (ix2 (k r) d) := by
  after_results
  pointwise
  rw [all_set]
  · refine (rows_word gather_S2048x256_S2048x1_S2048x256_1_0_n_n_0_1_1256_wf _ _ r d (k r) ?_)
    pointwise
    exact checked (k r) _ (hV r)
  · exact fun _ => rfl
  · intro r
    pointwise
    rw [checked (k r) _ (hV r), (in_table (k r)).2.1, (in_table (k r)).2.2]
    rfl

/-- Level 1's tokens, by batch and position. -/
theorem rest1_tok (b : Fin 2) (p : Fin 1024) :
    after rest1 V (main_v51 : DevRef τ sig) (ix2 b p) = V (main_v43 : DevRef τ sig) (ix1 ⟨b.val * 1024 + p.val, by omega⟩) := by
  after_results
  pointwise

/-- Level 1's quantised output, from the latent rows `y` and the code words read `x`. -/
theorem rest1_quant (x y : Fin 2048 → Fin 256 → EReal) (hx : ∀ r d, V (main_v44 : DevRef τ sig) (ix2 r d) = x r d)
    (hy : ∀ r d, V (main_v28 : DevRef τ sig) (ix2 r d) = y r d) (b : Fin 2) (d : Fin 256) (p : Fin 1024) :
    (after rest1 V (main_v53 : DevRef τ sig) (ix3 b d p) : EReal)
      = y ⟨b.val * 1024 + p.val, by omega⟩ d + (x ⟨b.val * 1024 + p.val, by omega⟩ d - y ⟨b.val * 1024 + p.val, by omega⟩ d) := by
  rw [← hx, ← hy]
  after_results
  pointwise

/-- Level 1's loss, from the latent rows `y` and the code words read `x`. -/
theorem rest1_loss (x y : Fin 2048 → Fin 256 → EReal) (hx : ∀ r d, V (main_v44 : DevRef τ sig) (ix2 r d) = x r d)
    (hy : ∀ r d, V (main_v28 : DevRef τ sig) (ix2 r d) = y r d) (S : EReal) (hS : ∑ r, ∑ d, (x r d - y r d) * (x r d - y r d) = S) :
    (after rest1 V (main_v48 : DevRef τ sig) ix0 : EReal) = Ideal.div (Ideal.sqrt S * Ideal.sqrt S) (Ideal.ofBits .f32 0x49000000#32) := by
  subst hS
  simp only [← hx, ← hy]
  after_results
  pointwise

/-! ## The level -/

section
variable (h : Fin 2 → Fin 1024 → Fin 256 → ℝ) (e : Fin 2048 → Fin 256 → ℝ)
  (hh : ∀ b p d, (V (main_arg1 : DevRef τ sig) (ix3 b d p) : EReal) = ((h b p d : ℝ) : EReal))
  (he : ∀ k d, (V (main_arg4 : DevRef τ sig) (ix2 k d) : EReal) = ((e k d : ℝ) : EReal))

/-- Row `r` of the latent. -/
abbrev row1 (r : Fin 2048) : Fin 256 → ℝ := h ⟨r.val / 1024, by omega⟩ ⟨r.val % 1024, by omega⟩

/-- The row of a batch and a position. -/
theorem row1_eq (b : Fin 2) (p : Fin 1024) : row1 h ⟨b.val * 1024 + p.val, by omega⟩ = h b p := by
  have hb : (⟨(b.val * 1024 + p.val) / 1024, by omega⟩ : Fin 2) = b := Fin.ext (by show (b.val * 1024 + p.val) / 1024 = b.val; omega)
  have hp : (⟨(b.val * 1024 + p.val) % 1024, by omega⟩ : Fin 1024) = p := Fin.ext (by show (b.val * 1024 + p.val) % 1024 = p.val; omega)
  exact (congrArg (fun x => h x _) hb).trans (congrArg (h b) hp)

include hh he

/-- A row's token is its first nearest code word's. -/
theorem found1 (r : Fin 2048) : after argmin1 (after dist1 V) (main_v43 : DevRef τ sig) (ix1 r) = BitVec.ofNat 32 (best e (row1 h r)).val :=
  argmin1_apply _ r _ (fun k => dist1_apply V h e hh he r k) (best_isBest e (row1 h r))

/-- The code word read for a row is its first nearest. -/
theorem taken1 (r : Fin 2048) (d : Fin 256) :
    (after take1 (after argmin1 (after dist1 V)) (main_v44 : DevRef τ sig) (ix2 r d) : EReal) = ((e (best e (row1 h r)) d : ℝ) : EReal) := by
  refine (take1_apply _ (fun r => best e (row1 h r)) (found1 V h e hh he) r d).trans ?_
  rw [argmin1_keep _ (by decide), dist1_keep _ (by decide)]
  exact he _ _

omit he in
/-- The latent rows are still there. -/
theorem kept1 (r : Fin 2048) (d : Fin 256) :
    (after take1 (after argmin1 (after dist1 V)) (main_v28 : DevRef τ sig) (ix2 r d) : EReal) = ((row1 h r d : ℝ) : EReal) := by
  rw [take1_keep _ (by decide), argmin1_keep _ (by decide)]
  exact (latent1_apply V r d).trans (hh ..)

/-- Level 1's tokens. -/
theorem lev1_tok (b : Fin 2) (p : Fin 1024) : after lev1 V (main_v51 : DevRef τ sig) (ix2 b p) = BitVec.ofNat 32 (best e (h b p)).val := by
  rw [lev1_after]
  refine (rest1_tok _ b p).trans ?_
  rw [take1_keep _ (by decide)]
  refine (found1 V h e hh he _).trans ?_
  rw [row1_eq]

/-- Level 1's quantised output. -/
theorem lev1_quant (b : Fin 2) (d : Fin 256) (p : Fin 1024) : (after lev1 V (main_v53 : DevRef τ sig) (ix3 b d p) : EReal) = ((e (best e (h b p)) d : ℝ) : EReal) := by
  rw [lev1_after]
  refine (rest1_quant _ _ _ (taken1 V h e hh he) (kept1 V h hh) b d p).trans ?_
  rw [back_eq, row1_eq]

/-- Level 1's loss. -/
theorem lev1_loss : (after lev1 V (main_v48 : DevRef τ sig) ix0 : EReal)
    = Ideal.div (Ideal.sqrt (∑ r : Fin 2048, ((sqDist (row1 h r) (e (best e (row1 h r))) : ℝ) : EReal))
        * Ideal.sqrt (∑ r : Fin 2048, ((sqDist (row1 h r) (e (best e (row1 h r))) : ℝ) : EReal))) (Ideal.ofBits .f32 0x49000000#32) := by
  rw [lev1_after]
  exact rest1_loss _ _ _ (taken1 V h e hh he) (kept1 V h hh) _ (Finset.sum_congr rfl fun r _ => row_eq _ _)

end

end Cert.Proof.Ref

end
-- ==== Proof.RefLev2.lean ====
/-
  The reference's level 2 when its latent and its codebook are real numbers: the tokens are the words of the first
  nearest code words, the quantised output is those code words, and the loss is a multiple of the summed distances.
-/
module

public import Idealize.ShloMosaic.Lib.StableHlo.RunClose
public import Idealize.ShloMosaic.Lib.Pointwise
public import proofs.«01_k».proof.Proof.RefKeep
public import proofs.«01_k».proof.Proof.RefMath

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem
open Cert.Proof.VQ

variable (V : Valuation τ sig (Elt Ideal))

/-! ## The four stretches, at an index -/

/-- The latent as rows. -/
theorem latent2_apply (r : Fin 512) (d : Fin 256) :
    (after dist2 V (main_v55 : DevRef τ sig) (ix2 r d) : EReal) = V (main_arg2 : DevRef τ sig) (ix3 ⟨r.val / 256, by omega⟩ d ⟨r.val % 256, by omega⟩) := by
  after_results
  pointwise

/-- The distances. -/
theorem dist2_apply (h : Fin 2 → Fin 256 → Fin 256 → ℝ) (e : Fin 2048 → Fin 256 → ℝ)
    (hh : ∀ b p d, (V (main_arg2 : DevRef τ sig) (ix3 b d p) : EReal) = ((h b p d : ℝ) : EReal))
    (he : ∀ k d, (V (main_arg3 : DevRef τ sig) (ix2 k d) : EReal) = ((e k d : ℝ) : EReal)) (r : Fin 512) (k : Fin 2048) :
    (after dist2 V (main_v69 : DevRef τ sig) (ix2 r k) : EReal) = ((sqDist (h ⟨r.val / 256, by omega⟩ ⟨r.val % 256, by omega⟩) (e k) : ℝ) : EReal) := by
  after_results
  pointwise
  exact dist_eq _ _ _ _ (fun d => hh ..) (fun d => he ..)

/-- The search. -/
theorem argmin2_apply (r : Fin 512) (D : Fin 2048 → ℝ) (hD : ∀ k, (V (main_v69 : DevRef τ sig) (ix2 r k) : EReal) = ((D k : ℝ) : EReal))
    {k : Fin 2048} (hk : IsBest D k) : after argmin2 V (main_v70 : DevRef τ sig) (ix1 r) = BitVec.ofNat 32 k.val := by
  after_results
  exact search_apply _ _ _ _ _ _ (fun _ => inf_eq) (fun _ _ => rfl) r D hD hk

/-- The reading of the code words. -/
theorem take2_apply (k : Fin 512 → Fin 2048) (hV : ∀ r, V (main_v70 : DevRef τ sig) (ix1 r) = BitVec.ofNat 32 (k r).val) (r : Fin 512) (d : Fin 256) :
    (after take2 V (main_v71 : DevRef τ sig) (ix2 r d) : EReal) = V (main_arg3 : DevRef τ sig) (ix2 (k r) d) := by
  after_results
  pointwise
  rw [all_set]
  · refine (rows_word gather_S2048x256_S512x1_S512x256_1_0_n_n_0_1_1256_wf _ _ r d (k r) ?_)
    pointwise
    exact checked (k r) _ (hV r)
  · exact fun _ => rfl
  · intro r
    pointwise
    rw [checked (k r) _ (hV r), (in_table (k r)).2.1, (in_table (k r)).2.2]
    rfl

/-- Level 2's tokens, by batch and position. -/
theorem rest2_tok (b : Fin 2) (p : Fin 256) :
    after rest2 V (main_v78 : DevRef τ sig) (ix2 b p) = V (main_v70 : DevRef τ sig) (ix1 ⟨b.val * 256 + p.val, by omega⟩) := by
  after_results
  pointwise

/-- Level 2's quantised output, from the latent rows `y` and the code words read `x`. -/
theorem rest2_quant (x y : Fin 512 → Fin 256 → EReal) (hx : ∀ r d, V (main_v71 : DevRef τ sig) (ix2 r d) = x r d)
    (hy : ∀ r d, V (main_v55 : DevRef τ sig) (ix2 r d) = y r d) (b : Fin 2) (d : Fin 256) (p : Fin 256) :
    (after rest2 V (main_v80 : DevRef τ sig) (ix3 b d p) : EReal)
      = y ⟨b.val * 256 + p.val, by omega⟩ d + (x ⟨b.val * 256 + p.val, by omega⟩ d - y ⟨b.val * 256 + p.val, by omega⟩ d) := by
  rw [← hx, ← hy]
  after_results
  pointwise

/-- Level 2's loss, from the latent rows `y` and the code words read `x`. -/
theorem rest2_loss (x y : Fin 512 → Fin 256 → EReal) (hx : ∀ r d, V (main_v71 : DevRef τ sig) (ix2 r d) = x r d)
    (hy : ∀ r d, V (main_v55 : DevRef τ sig) (ix2 r d) = y r d) (S : EReal) (hS : ∑ r, ∑ d, (x r d - y r d) * (x r d - y r d) = S) :
    (after rest2 V (main_v75 : DevRef τ sig) ix0 : EReal) = Ideal.div (Ideal.sqrt S * Ideal.sqrt S) (Ideal.ofBits .f32 0x48000000#32) := by
  subst hS
  simp only [← hx, ← hy]
  after_results
  pointwise

/-! ## The level -/

section
variable (h : Fin 2 → Fin 256 → Fin 256 → ℝ) (e : Fin 2048 → Fin 256 → ℝ)
  (hh : ∀ b p d, (V (main_arg2 : DevRef τ sig) (ix3 b d p) : EReal) = ((h b p d : ℝ) : EReal))
  (he : ∀ k d, (V (main_arg3 : DevRef τ sig) (ix2 k d) : EReal) = ((e k d : ℝ) : EReal))

/-- Row `r` of the latent. -/
abbrev row2 (r : Fin 512) : Fin 256 → ℝ := h ⟨r.val / 256, by omega⟩ ⟨r.val % 256, by omega⟩

/-- The row of a batch and a position. -/
theorem row2_eq (b : Fin 2) (p : Fin 256) : row2 h ⟨b.val * 256 + p.val, by omega⟩ = h b p := by
  have hb : (⟨(b.val * 256 + p.val) / 256, by omega⟩ : Fin 2) = b := Fin.ext (by show (b.val * 256 + p.val) / 256 = b.val; omega)
  have hp : (⟨(b.val * 256 + p.val) % 256, by omega⟩ : Fin 256) = p := Fin.ext (by show (b.val * 256 + p.val) % 256 = p.val; omega)
  exact (congrArg (fun x => h x _) hb).trans (congrArg (h b) hp)

include hh he

/-- A row's token is its first nearest code word's. -/
theorem found2 (r : Fin 512) : after argmin2 (after dist2 V) (main_v70 : DevRef τ sig) (ix1 r) = BitVec.ofNat 32 (best e (row2 h r)).val :=
  argmin2_apply _ r _ (fun k => dist2_apply V h e hh he r k) (best_isBest e (row2 h r))

/-- The code word read for a row is its first nearest. -/
theorem taken2 (r : Fin 512) (d : Fin 256) :
    (after take2 (after argmin2 (after dist2 V)) (main_v71 : DevRef τ sig) (ix2 r d) : EReal) = ((e (best e (row2 h r)) d : ℝ) : EReal) := by
  refine (take2_apply _ (fun r => best e (row2 h r)) (found2 V h e hh he) r d).trans ?_
  rw [argmin2_keep _ (by decide), dist2_keep _ (by decide)]
  exact he _ _

omit he in
/-- The latent rows are still there. -/
theorem kept2 (r : Fin 512) (d : Fin 256) :
    (after take2 (after argmin2 (after dist2 V)) (main_v55 : DevRef τ sig) (ix2 r d) : EReal) = ((row2 h r d : ℝ) : EReal) := by
  rw [take2_keep _ (by decide), argmin2_keep _ (by decide)]
  exact (latent2_apply V r d).trans (hh ..)

/-- Level 2's tokens. -/
theorem lev2_tok (b : Fin 2) (p : Fin 256) : after lev2 V (main_v78 : DevRef τ sig) (ix2 b p) = BitVec.ofNat 32 (best e (h b p)).val := by
  rw [lev2_after]
  refine (rest2_tok _ b p).trans ?_
  rw [take2_keep _ (by decide)]
  refine (found2 V h e hh he _).trans ?_
  rw [row2_eq]

/-- Level 2's quantised output. -/
theorem lev2_quant (b : Fin 2) (d : Fin 256) (p : Fin 256) : (after lev2 V (main_v80 : DevRef τ sig) (ix3 b d p) : EReal) = ((e (best e (h b p)) d : ℝ) : EReal) := by
  rw [lev2_after]
  refine (rest2_quant _ _ _ (taken2 V h e hh he) (kept2 V h hh) b d p).trans ?_
  rw [back_eq, row2_eq]

/-- Level 2's loss. -/
theorem lev2_loss : (after lev2 V (main_v75 : DevRef τ sig) ix0 : EReal)
    = Ideal.div (Ideal.sqrt (∑ r : Fin 512, ((sqDist (row2 h r) (e (best e (row2 h r))) : ℝ) : EReal))
        * Ideal.sqrt (∑ r : Fin 512, ((sqDist (row2 h r) (e (best e (row2 h r))) : ℝ) : EReal))) (Ideal.ofBits .f32 0x48000000#32) := by
  rw [lev2_after]
  exact rest2_loss _ _ _ (taken2 V h e hh he) (kept2 V h hh) _ (Finset.sum_congr rfl fun r _ => row_eq _ _)

end

end Cert.Proof.Ref

end
-- ==== Proof.RefVal.lean ====
/-
  The reference's run when its arguments are real numbers: the quantiser's results at the three levels.
-/
module

public import proofs.«01_k».proof.Proof.Spec
public import proofs.«01_k».proof.Proof.RefLev0
public import proofs.«01_k».proof.Proof.RefLev1
public import proofs.«01_k».proof.Proof.RefLev2

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.VQ

/-- A sum over rows of a term of the row is the sum over batches and positions. -/
theorem total_rows {T n : ℕ} (hn : 2 * T = n) (h : Fin 2 → Fin T → Fin 256 → ℝ) (e : Fin 2048 → Fin 256 → ℝ) (row : Fin n → Fin 256 → ℝ)
    (hrow : ∀ b p i, i.val = b.val * T + p.val → row i = h b p) :
    ∑ r, ((sqDist (row r) (e (best e (row r))) : ℝ) : EReal) = total h e := by
  rw [sum_blocks hn]
  refine Finset.sum_congr rfl fun b _ => Finset.sum_congr rfl fun p _ => ?_
  rw [hrow b p _ rfl]

variable (m : (ℓ : Loc nD τ sig) → Buf (Elt Ideal) ℓ) (ρ : Dev nD → PrngReg) (c : Dev nD)

section
variable (h : Fin 2 → Fin 4096 → Fin 256 → ℝ) (e : Fin 2048 → Fin 256 → ℝ)
  (hh : ∀ b p d, (m ((c.tc : Thread nD τ).loc main_arg0) (ix3 b d p) : EReal) = ((h b p d : ℝ) : EReal))
  (he : ∀ k d, (m ((c.tc : Thread nD τ).loc main_arg5) (ix2 k d) : EReal) = ((e k d : ℝ) : EReal))

include hh in
/-- Level 0's latent, where the level starts. -/
theorem start0_latent (b : Fin 2) (p : Fin 4096) (d : Fin 256) : ((launchContents m c) (main_arg0 : DevRef τ sig) (ix3 b d p) : EReal) = ((h b p d : ℝ) : EReal) := by
  exact hh b p d

include he in
/-- Level 0's codebook, where the level starts. -/
theorem start0_code (k : Fin 2048) (d : Fin 256) : ((launchContents m c) (main_arg5 : DevRef τ sig) (ix2 k d) : EReal) = ((e k d : ℝ) : EReal) := by
  exact he k d

include hh he

/-- Level 0's tokens, at the end. -/
theorem end_tok0 : after ops (launchContents m c) (main_v24 : DevRef τ sig) = tokens h e := by
  rw [ops_after, lev2_keep _ (by decide), lev1_keep _ (by decide)]
  exact ext2 fun b p => lev0_tok _ h e (start0_latent m c h hh) (start0_code m c e he) b p

/-- Level 0's quantised output, at the end. -/
theorem end_quant0 : after ops (launchContents m c) (main_v26 : DevRef τ sig) = quantised h e := by
  rw [ops_after, lev2_keep _ (by decide), lev1_keep _ (by decide)]
  exact ext3 fun b d p => lev0_quant _ h e (start0_latent m c h hh) (start0_code m c e he) b d p

/-- Level 0's loss, at the end. -/
theorem end_loss0 : after ops (launchContents m c) (main_v21 : DevRef τ sig) = loss h e 0x4A000000#32 := by
  rw [ops_after, lev2_keep _ (by decide), lev1_keep _ (by decide)]
  refine ext0 ((lev0_loss _ h e (start0_latent m c h hh) (start0_code m c e he)).trans ?_)
  rw [total_rows (show 2 * 4096 = 8192 from rfl) h e (row0 h) fun b p i hi => (congrArg (row0 h) (Fin.ext hi)).trans (row0_eq h b p)]
  rfl

end

section
variable (h : Fin 2 → Fin 1024 → Fin 256 → ℝ) (e : Fin 2048 → Fin 256 → ℝ)
  (hh : ∀ b p d, (m ((c.tc : Thread nD τ).loc main_arg1) (ix3 b d p) : EReal) = ((h b p d : ℝ) : EReal))
  (he : ∀ k d, (m ((c.tc : Thread nD τ).loc main_arg4) (ix2 k d) : EReal) = ((e k d : ℝ) : EReal))

include hh in
/-- Level 1's latent, where the level starts. -/
theorem start1_latent (b : Fin 2) (p : Fin 1024) (d : Fin 256) : ((after lev0 (launchContents m c)) (main_arg1 : DevRef τ sig) (ix3 b d p) : EReal) = ((h b p d : ℝ) : EReal) := by
  rw [lev0_keep _ (by decide)]; exact hh b p d

include he in
/-- Level 1's codebook, where the level starts. -/
theorem start1_code (k : Fin 2048) (d : Fin 256) : ((after lev0 (launchContents m c)) (main_arg4 : DevRef τ sig) (ix2 k d) : EReal) = ((e k d : ℝ) : EReal) := by
  rw [lev0_keep _ (by decide)]; exact he k d

include hh he

/-- Level 1's tokens, at the end. -/
theorem end_tok1 : after ops (launchContents m c) (main_v51 : DevRef τ sig) = tokens h e := by
  rw [ops_after, lev2_keep _ (by decide)]
  exact ext2 fun b p => lev1_tok _ h e (start1_latent m c h hh) (start1_code m c e he) b p

/-- Level 1's quantised output, at the end. -/
theorem end_quant1 : after ops (launchContents m c) (main_v53 : DevRef τ sig) = quantised h e := by
  rw [ops_after, lev2_keep _ (by decide)]
  exact ext3 fun b d p => lev1_quant _ h e (start1_latent m c h hh) (start1_code m c e he) b d p

/-- Level 1's loss, at the end. -/
theorem end_loss1 : after ops (launchContents m c) (main_v48 : DevRef τ sig) = loss h e 0x49000000#32 := by
  rw [ops_after, lev2_keep _ (by decide)]
  refine ext0 ((lev1_loss _ h e (start1_latent m c h hh) (start1_code m c e he)).trans ?_)
  rw [total_rows (show 2 * 1024 = 2048 from rfl) h e (row1 h) fun b p i hi => (congrArg (row1 h) (Fin.ext hi)).trans (row1_eq h b p)]
  rfl

end

section
variable (h : Fin 2 → Fin 256 → Fin 256 → ℝ) (e : Fin 2048 → Fin 256 → ℝ)
  (hh : ∀ b p d, (m ((c.tc : Thread nD τ).loc main_arg2) (ix3 b d p) : EReal) = ((h b p d : ℝ) : EReal))
  (he : ∀ k d, (m ((c.tc : Thread nD τ).loc main_arg3) (ix2 k d) : EReal) = ((e k d : ℝ) : EReal))

include hh in
/-- Level 2's latent, where the level starts. -/
theorem start2_latent (b : Fin 2) (p : Fin 256) (d : Fin 256) : ((after lev1 (after lev0 (launchContents m c))) (main_arg2 : DevRef τ sig) (ix3 b d p) : EReal) = ((h b p d : ℝ) : EReal) := by
  rw [lev1_keep _ (by decide), lev0_keep _ (by decide)]; exact hh b p d

include he in
/-- Level 2's codebook, where the level starts. -/
theorem start2_code (k : Fin 2048) (d : Fin 256) : ((after lev1 (after lev0 (launchContents m c))) (main_arg3 : DevRef τ sig) (ix2 k d) : EReal) = ((e k d : ℝ) : EReal) := by
  rw [lev1_keep _ (by decide), lev0_keep _ (by decide)]; exact he k d

include hh he

/-- Level 2's tokens, at the end. -/
theorem end_tok2 : after ops (launchContents m c) (main_v78 : DevRef τ sig) = tokens h e := by
  rw [ops_after]
  exact ext2 fun b p => lev2_tok _ h e (start2_latent m c h hh) (start2_code m c e he) b p

/-- Level 2's quantised output, at the end. -/
theorem end_quant2 : after ops (launchContents m c) (main_v80 : DevRef τ sig) = quantised h e := by
  rw [ops_after]
  exact ext3 fun b d p => lev2_quant _ h e (start2_latent m c h hh) (start2_code m c e he) b d p

/-- Level 2's loss, at the end. -/
theorem end_loss2 : after ops (launchContents m c) (main_v75 : DevRef τ sig) = loss h e 0x48000000#32 := by
  rw [ops_after]
  refine ext0 ((lev2_loss _ h e (start2_latent m c h hh) (start2_code m c e he)).trans ?_)
  rw [total_rows (show 2 * 256 = 512 from rfl) h e (row2 h) fun b p i hi => (congrArg (row2 h) (Fin.ext hi)).trans (row2_eq h b p)]
  rfl

end

/-- The reference's run: its nine results are the quantiser's, its arguments are unchanged. -/
theorem values (h : Dev nD → Fin 2 → Fin 4096 → Fin 256 → ℝ) (h1 : Dev nD → Fin 2 → Fin 1024 → Fin 256 → ℝ) (h2 : Dev nD → Fin 2 → Fin 256 → Fin 256 → ℝ)
    (e e1 e2 : Dev nD → Fin 2048 → Fin 256 → ℝ)
    (hh : ∀ (c : Dev nD) b p d, (m ((c.tc : Thread nD τ).loc main_arg0) (ix3 b d p) : EReal) = ((h c b p d : ℝ) : EReal))
    (hh1 : ∀ (c : Dev nD) b p d, (m ((c.tc : Thread nD τ).loc main_arg1) (ix3 b d p) : EReal) = ((h1 c b p d : ℝ) : EReal))
    (hh2 : ∀ (c : Dev nD) b p d, (m ((c.tc : Thread nD τ).loc main_arg2) (ix3 b d p) : EReal) = ((h2 c b p d : ℝ) : EReal))
    (he : ∀ (c : Dev nD) k d, (m ((c.tc : Thread nD τ).loc main_arg5) (ix2 k d) : EReal) = ((e c k d : ℝ) : EReal))
    (he1 : ∀ (c : Dev nD) k d, (m ((c.tc : Thread nD τ).loc main_arg4) (ix2 k d) : EReal) = ((e1 c k d : ℝ) : EReal))
    (he2 : ∀ (c : Dev nD) k d, (m ((c.tc : Thread nD τ).loc main_arg3) (ix2 k d) : EReal) = ((e2 c k d : ℝ) : EReal)) :
    θ_run defs (onTc (τ := τ) (main (F := Ideal))) ⟨m, fun _ => 0, ρ⟩ (fun r => ∀ c : Dev nD,
      r.2.mem ((c.tc : Thread nD τ).loc main_v24) = tokens (h c) (e c)
      ∧ r.2.mem ((c.tc : Thread nD τ).loc main_v51) = tokens (h1 c) (e1 c)
      ∧ r.2.mem ((c.tc : Thread nD τ).loc main_v78) = tokens (h2 c) (e2 c)
      ∧ r.2.mem ((c.tc : Thread nD τ).loc main_v26) = quantised (h c) (e c)
      ∧ r.2.mem ((c.tc : Thread nD τ).loc main_v53) = quantised (h1 c) (e1 c)
      ∧ r.2.mem ((c.tc : Thread nD τ).loc main_v80) = quantised (h2 c) (e2 c)
      ∧ r.2.mem ((c.tc : Thread nD τ).loc main_v21) = loss (h c) (e c) 0x4A000000#32
      ∧ r.2.mem ((c.tc : Thread nD τ).loc main_v48) = loss (h1 c) (e1 c) 0x49000000#32
      ∧ r.2.mem ((c.tc : Thread nD τ).loc main_v75) = loss (h2 c) (e2 c) 0x48000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ H c =>
    ⟨(H c main_v24).trans (end_tok0 m c (h c) (e c) (hh c) (he c)),
      (H c main_v51).trans (end_tok1 m c (h1 c) (e1 c) (hh1 c) (he1 c)),
      (H c main_v78).trans (end_tok2 m c (h2 c) (e2 c) (hh2 c) (he2 c)),
      (H c main_v26).trans (end_quant0 m c (h c) (e c) (hh c) (he c)),
      (H c main_v53).trans (end_quant1 m c (h1 c) (e1 c) (hh1 c) (he1 c)),
      (H c main_v80).trans (end_quant2 m c (h2 c) (e2 c) (hh2 c) (he2 c)),
      (H c main_v21).trans (end_loss0 m c (h c) (e c) (hh c) (he c)),
      (H c main_v48).trans (end_loss1 m c (h1 c) (e1 c) (hh1 c) (he1 c)),
      (H c main_v75).trans (end_loss2 m c (h2 c) (e2 c) (hh2 c) (he2 c)),
      (H c main_arg0).trans (arg0_eq _), (H c main_arg1).trans (arg1_eq _), (H c main_arg2).trans (arg2_eq _),
      (H c main_arg3).trans (arg3_eq _), (H c main_arg4).trans (arg4_eq _), (H c main_arg5).trans (arg5_eq _)⟩) (run_main m ρ)

end Cert.Proof.Ref

end
-- ==== Proof.Agree.lean ====
/-
  The kernel and its reference agree on all nine results, where the arguments are finite.
-/
module

public import proofs.«01_k».proof.Proof.Finite
public import proofs.«01_k».proof.Proof.KTail
public import proofs.«01_k».proof.Proof.RefVal

@[expose] public section

set_option maxRecDepth 16384

noncomputable section

namespace Cert.Proof

open Idealize.ShloMosaic Idealize.SL.Sem
open Cert.KernelIdeal (nD τ sig main_arg0 main_arg1 main_arg2 main_arg3 main_arg4 main_arg5)
open Cert.Proof.VQ

section
variable (m : (ℓ : Loc nD τ sig) → Buf (Elt Ideal) ℓ) (c : Dev nD)

/-- The latents and the codebooks of the three levels, as real numbers. -/
def lat0 (b : Fin 2) (p : Fin 4096) (d : Fin 256) : ℝ := (m ((c.tc : Thread nD τ).loc main_arg0) (ix3 b d p) : EReal).toReal
def lat1 (b : Fin 2) (p : Fin 1024) (d : Fin 256) : ℝ := (m ((c.tc : Thread nD τ).loc main_arg1) (ix3 b d p) : EReal).toReal
def lat2 (b : Fin 2) (p : Fin 256) (d : Fin 256) : ℝ := (m ((c.tc : Thread nD τ).loc main_arg2) (ix3 b d p) : EReal).toReal
def code0 (k : Fin 2048) (d : Fin 256) : ℝ := (m ((c.tc : Thread nD τ).loc main_arg5) (ix2 k d) : EReal).toReal
def code1 (k : Fin 2048) (d : Fin 256) : ℝ := (m ((c.tc : Thread nD τ).loc main_arg4) (ix2 k d) : EReal).toReal
def code2 (k : Fin 2048) (d : Fin 256) : ℝ := (m ((c.tc : Thread nD τ).loc main_arg3) (ix2 k d) : EReal).toReal

end

/-- On finite arguments the kernel's nine results are the reference's. -/
theorem agree : Cert.algebraic_KernelIdeal_ReferenceIdeal_pre_finite (hKernelIdeal := Cert.KernelIdeal.Gen.facts)
    (hReferenceIdeal := Cert.ReferenceIdeal.Gen.facts) (hPre_finite := Finite.facts) := by
  intro m g m' g' hfin hargs
  have R := Finite.reals m hfin
  refine ⟨fun c => tokens (lat0 m c) (code0 m c), fun c => tokens (lat1 m c) (code1 m c), fun c => tokens (lat2 m c) (code2 m c),
    fun c => quantised (lat0 m c) (code0 m c), fun c => quantised (lat1 m c) (code1 m c), fun c => quantised (lat2 m c) (code2 m c),
    fun c => loss (lat0 m c) (code0 m c) 0x4A000000#32, fun c => loss (lat1 m c) (code1 m c) 0x49000000#32,
    fun c => loss (lat2 m c) (code2 m c) 0x48000000#32, ?_, ?_⟩
  · exact KI.values m g (lat0 m) (lat1 m) (lat2 m) (code0 m) (code1 m) (code2 m)
      (fun c _ _ _ => (R c).1 _) (fun c _ _ _ => (R c).2.1 _) (fun c _ _ _ => (R c).2.2.1 _)
      (fun c _ _ => (R c).2.2.2.2.2 _) (fun c _ _ => (R c).2.2.2.2.1 _) (fun c _ _ => (R c).2.2.2.1 _)
  · exact Ref.values m' g' (lat0 m) (lat1 m) (lat2 m) (code0 m) (code1 m) (code2 m)
      (fun c _ _ _ => (congrFun (hargs c).1 _).trans ((R c).1 _)) (fun c _ _ _ => (congrFun (hargs c).2.1 _).trans ((R c).2.1 _))
      (fun c _ _ _ => (congrFun (hargs c).2.2.1 _).trans ((R c).2.2.1 _))
      (fun c _ _ => (congrFun (hargs c).2.2.2.2.2 _).trans ((R c).2.2.2.2.2 _))
      (fun c _ _ => (congrFun (hargs c).2.2.2.2.1 _).trans ((R c).2.2.2.2.1 _))
      (fun c _ _ => (congrFun (hargs c).2.2.2.1 _).trans ((R c).2.2.2.1 _))

end Cert.Proof

end
-- ==== Proof.lean ====
/-
  The claims about the kernel and its reference, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KDat
public import proofs.«01_k».proof.Proof.KSame
public import proofs.«01_k».proof.Proof.RefKeep
public import proofs.«01_k».proof.Proof.Agree
public import Idealize.ShloMosaic.Adequacy
public import Idealize.ShloMosaic.Init

@[expose] public section

noncomputable section

namespace Cert.Proof

open Idealize.ShloMosaic Idealize.SL.Sem

/-- Every run of the kernel and of its reference ends with the arguments unchanged and every semaphore at zero, and on
    finite arguments the two end with the same nine results. -/
theorem claim : Cert.Claim :=
  ⟨Cert.Kernel.Gen.facts, Cert.KernelIdeal.Gen.facts, Cert.ReferenceIdeal.Gen.facts, Cert.Proof.Finite.facts,
    fun m ρ _ => Cert.Proof.Same.frame m ρ, fun m ρ _ => Cert.Proof.KI.frame m ρ, fun m ρ _ => Cert.Proof.KI.frame m ρ,
    fun m ρ _ => Cert.Proof.Ref.frame m ρ, fun m ρ _ => Cert.Proof.Ref.frame m ρ, trivial, Cert.Proof.agree⟩

end Cert.Proof

end
